-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_range [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tokens_in_range [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_tokens_in_range [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel)
    ∧ quiescent_KernelIdeal (hKernelIdeal := hKernelIdeal)
    ∧ quiescent_KernelIdeal_pre_tokens_in_range (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal_pre_tokens_in_range (hKernelIdeal := hKernelIdeal) (hReferenceIdeal := hReferenceIdeal) (hPre_tokens_in_range := hPre_tokens_in_range)
-- ==== Pre_tokens_in_range.lean ====
abbrev S1x8192 : Shape := ⟨2, ![1, 8192]⟩
abbrev S_ : Shape := ⟨0, ![]⟩
abbrev S32x1000x1000 : Shape := ⟨3, ![32, 1000, 1000]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S32x1000x1000 : S_.BroadcastsInDim S32x1000x1000 (![] : Fin 0 → Fin S32x1000x1000.rank)
  reducesTo_S32x1000x1000_S_d0_1_2 : S32x1000x1000.ReducesTo [0, 1, 2] S_

variable [Facts]

def fn {F : FTy → Type} [FloatOps F] (main_arg0 : IVec S1x8192 32) (main_arg1 : IVec S_ 32) (main_arg2 : FVec F S32x1000x1000 .f32) : IVec S_ 1 :=
  let main_c : IVec S_ 32 := constantI S_ 32 0#32
  let main_v0 : IVec S1x8192 32 := broadcastInDim S1x8192 ![] bcast_S_S1x8192 main_c
  let main_v1 : IVec S1x8192 1 := cmpi .sge main_arg0 main_v0
  let main_c_0 : IVec S_ 32 := constantI S_ 32 1000#32
  let main_v2 : IVec S1x8192 32 := broadcastInDim S1x8192 ![] bcast_S_S1x8192 main_c_0
  let main_v3 : IVec S1x8192 1 := cmpi .slt main_arg0 main_v2
  let main_v4 : IVec S1x8192 1 := andi main_v1 main_v3
  let main_c_1 : IVec S_ 1 := constantI S_ 1 1#1
  let main_v5 : IVec S_ 1 := (fun x v => Host.reduce IntOp.andi x v reducesTo_S1x8192_S_d0_1 h_S_) main_v4 main_c_1
  let main_cst : FVec F S_ .f32 := constant S_ .f32 0x7F800000#32
  let main_v6 : FVec F S32x1000x1000 .f32 := broadcastInDim S32x1000x1000 ![] bcast_S_S32x1000x1000 main_cst
  let main_v7 : IVec S32x1000x1000 1 := cmpf .olt main_arg2 main_v6
  let main_c_2 : IVec S_ 1 := constantI S_ 1 1#1
  let main_v8 : IVec S_ 1 := (fun x v => Host.reduce IntOp.andi x v reducesTo_S32x1000x1000_S_d0_1_2 h_S_) main_v7 main_c_2
  let main_v9 : IVec S_ 1 := andi main_v5 main_v8
  main_v9
-- ==== Kernel.lean ====
abbrev S1x8192 : Shape := ⟨2, ![1, 8192]⟩
abbrev S_ : Shape := ⟨0, ![]⟩
abbrev S32x1000x1000 : Shape := ⟨3, ![32, 1000, 1000]⟩
abbrev S1x1000x1000 : Shape := ⟨3, ![1, 1000, 1000]⟩
abbrev S1000x1000 : Shape := ⟨2, ![1000, 1000]⟩
abbrev S1024x1024 : Shape := ⟨2, ![1024, 1024]⟩
abbrev S8192x1 : Shape := ⟨2, ![8192, 1]⟩
abbrev S256x1 : Shape := ⟨2, ![256, 1]⟩
abbrev S256x1024 : Shape := ⟨2, ![256, 1024]⟩
abbrev S256 : Shape := ⟨1, ![256]⟩

abbrev nBuf : Space → Nat
  | .hbm => 32
  | .vmem => 8
  | .smem => 0
  | _ => 0

abbrev bufTy : (tb : Table) → Fin (tcTables nBuf tb) → BufTy
  | .hbm, ⟨0, _⟩ => ⟨S1x8192, .i32⟩
  | .hbm, ⟨1, _⟩ => ⟨S_, .i32⟩
  | .hbm, ⟨2, _⟩ => ⟨S32x1000x1000, .f32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x1000x1000, .f32⟩
  | .hbm, ⟨25, _⟩ => ⟨S1000x1000, .f32⟩
  | .hbm, ⟨26, _⟩ => ⟨S_, .i32⟩
  | .hbm, ⟨27, _⟩ => ⟨S_, .f32⟩
  | .hbm, ⟨28, _⟩ => ⟨S1024x1024, .f32⟩
  | .hbm, ⟨29, _⟩ => ⟨S8192x1, .i32⟩
  | .hbm, ⟨30, _⟩ => ⟨S8192x1, .i32⟩
  | .hbm, ⟨31, _⟩ => ⟨S1x8192, .i32⟩
  | .local _ .vmem, ⟨0, _⟩ => ⟨S256x1, .i32⟩
  | .local _ .vmem, ⟨1, _⟩ => ⟨S256x1, .i32⟩
  | .local _ .vmem, ⟨2, _⟩ => ⟨S1024x1024, .f32⟩
  | .local _ .vmem, ⟨3, _⟩ => ⟨S256x1, .i32⟩
  | .local _ .vmem, ⟨4, _⟩ => ⟨S256x1, .i32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S1x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_c_0 : Ref sig .tc := ⟨.hbm, 5, rfl⟩
abbrev main_call0_v1 : Ref sig .tc := ⟨.hbm, 6, rfl⟩
abbrev main_call0_v2 : Ref sig .tc := ⟨.hbm, 7, rfl⟩
abbrev main_call0_c_1 : Ref sig .tc := ⟨.hbm, 8, rfl⟩
abbrev main_call0_c_2 : Ref sig .tc := ⟨.hbm, 9, rfl⟩
abbrev main_call0_v3 : Ref sig .tc := ⟨.hbm, 10, rfl⟩
abbrev main_call0_c_3 : Ref sig .tc := ⟨.hbm, 11, rfl⟩
abbrev main_call0_c_4 : Ref sig .tc := ⟨.hbm, 12, rfl⟩
abbrev main_call0_v4 : Ref sig .tc := ⟨.hbm, 13, rfl⟩
abbrev main_call0_c_5 : Ref sig .tc := ⟨.hbm, 14, rfl⟩
abbrev main_call0_v5 : Ref sig .tc := ⟨.hbm, 15, rfl⟩
abbrev main_call0_c_6 : Ref sig .tc := ⟨.hbm, 16, rfl⟩
abbrev main_call0_c_7 : Ref sig .tc := ⟨.hbm, 17, rfl⟩
abbrev main_call0_v6 : Ref sig .tc := ⟨.hbm, 18, rfl⟩
abbrev main_call0_c_8 : Ref sig .tc := ⟨.hbm, 19, rfl⟩
abbrev main_call0_c_9 : Ref sig .tc := ⟨.hbm, 20, rfl⟩
abbrev main_call0_v7 : Ref sig .tc := ⟨.hbm, 21, rfl⟩
abbrev main_call0_c_10 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_11 : Ref sig .tc := ⟨.hbm, 26, rfl⟩
abbrev main_call0_call0_v0 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x8192 : Shape := ⟨2, ![1, 8192]⟩
abbrev S_ : Shape := ⟨0, ![]⟩
abbrev S32x1000x1000 : Shape := ⟨3, ![32, 1000, 1000]⟩
abbrev S8192 : Shape := ⟨1, ![8192]⟩
abbrev S8192x1 : Shape := ⟨2, ![8192, 1]⟩
abbrev S8192x2 : Shape := ⟨2, ![8192, 2]⟩
abbrev S8192x1000 : Shape := ⟨2, ![8192, 1000]⟩
abbrev S1 : Shape := ⟨1, ![1]⟩
abbrev S2 : Shape := ⟨1, ![2]⟩
abbrev S1x1 : Shape := ⟨2, ![1, 1]⟩

abbrev nBuf : Space → Nat
  | .hbm => 309
  | .vmem => 0
  | .smem => 0
  | _ => 0

abbrev hbmTy0_0 (i : Nat) : BufTy := match i % 128 with
  | 0 => ⟨S1x8192, .i32⟩
  | 1 => ⟨S_, .i32⟩
  | 2 => ⟨S32x1000x1000, .f32⟩
  | 3 => ⟨S8192, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192, .i32⟩
  | 17 => ⟨S8192x1, .i32⟩
  | 18 => ⟨S8192x1, .i32⟩
  | 19 => ⟨S8192x2, .i32⟩
  | 20 => ⟨S8192x1000, .f32⟩
  | 21 => ⟨S_, .f32⟩
  | 22 => ⟨S8192x1000, .f32⟩
  | 23 => ⟨S8192x1000, .f32⟩
  | 24 => ⟨S8192x1000, .f32⟩
  | 25 => ⟨S_, .i32⟩
  | 26 => ⟨S_, .i32⟩
  | 27 => ⟨S_, .i32⟩
  | 28 => ⟨S_, .i32⟩
  | 29 => ⟨S1, .i32⟩
  | 30 => ⟨S_, .i32⟩
  | 31 => ⟨S_, .i32⟩
  | 32 => ⟨S_, .i32⟩
  | 33 => ⟨S1, .i32⟩
  | 34 => ⟨S2, .i32⟩
  | 35 => ⟨S_, .f32⟩
  | 36 => ⟨S_, .f32⟩
  | 37 => ⟨S_, .f32⟩
  | 38 => ⟨S1x1, .f32⟩
  | 39 => ⟨S1x1, .f32⟩
  | 40 => ⟨S1, .i32⟩
  | 41 => ⟨S_, .i32⟩
  | 42 => ⟨S1, .i32⟩
  | 43 => ⟨S_, .i32⟩
  | 44 => ⟨S8192x1000, .i64⟩
  | 45 => ⟨S8192x1000, .i64⟩
  | 46 => ⟨S_, .i64⟩
  | 47 => ⟨S8192x1000, .i64⟩
  | 48 => ⟨S8192x1000, .i64⟩
  | 49 => ⟨S_, .i64⟩
  | 50 => ⟨S8192x1000, .i64⟩
  | 51 => ⟨S8192x1000, .i64⟩
  | 52 => ⟨S8192x1000, .i64⟩
  | 53 => ⟨S_, .i64⟩
  | 54 => ⟨S8192x1000, .i64⟩
  | 55 => ⟨S8192x1000, .i64⟩
  | 56 => ⟨S8192x1000, .i32⟩
  | 57 => ⟨S8192x1000, .i32⟩
  | 58 => ⟨S_, .i32⟩
  | 59 => ⟨S_, .i32⟩
  | 60 => ⟨S_, .i32⟩
  | 61 => ⟨S8192x1000, .i32⟩
  | 62 => ⟨S8192x1000, .i32⟩
  | 63 => ⟨S8192x1000, .i32⟩
  | 64 => ⟨S8192x1000, .i32⟩
  | 65 => ⟨S8192x1000, .i32⟩
  | 66 => ⟨S_, .i32⟩
  | 67 => ⟨S8192x1000, .i32⟩
  | 68 => ⟨S8192x1000, .i32⟩
  | 69 => ⟨S_, .i32⟩
  | 70 => ⟨S8192x1000, .i32⟩
  | 71 => ⟨S8192x1000, .i32⟩
  | 72 => ⟨S8192x1000, .i32⟩
  | 73 => ⟨S8192x1000, .i32⟩
  | 74 => ⟨S8192x1000, .i32⟩
  | 75 => ⟨S_, .i32⟩
  | 76 => ⟨S8192x1000, .i32⟩
  | 77 => ⟨S8192x1000, .i32⟩
  | 78 => ⟨S_, .i32⟩
  | 79 => ⟨S8192x1000, .i32⟩
  | 80 => ⟨S8192x1000, .i32⟩
  | 81 => ⟨S8192x1000, .i32⟩
  | 82 => ⟨S8192x1000, .i32⟩
  | 83 => ⟨S8192x1000, .i32⟩
  | 84 => ⟨S_, .i32⟩
  | 85 => ⟨S8192x1000, .i32⟩
  | 86 => ⟨S8192x1000, .i32⟩
  | 87 => ⟨S_, .i32⟩
  | 88 => ⟨S8192x1000, .i32⟩
  | 89 => ⟨S8192x1000, .i32⟩
  | 90 => ⟨S8192x1000, .i32⟩
  | 91 => ⟨S8192x1000, .i32⟩
  | 92 => ⟨S8192x1000, .i32⟩
  | 93 => ⟨S_, .i32⟩
  | 94 => ⟨S8192x1000, .i32⟩
  | 95 => ⟨S8192x1000, .i32⟩
  | 96 => ⟨S_, .i32⟩
  | 97 => ⟨S8192x1000, .i32⟩
  | 98 => ⟨S8192x1000, .i32⟩
  | 99 => ⟨S8192x1000, .i32⟩
  | 100 => ⟨S8192x1000, .i32⟩
  | 101 => ⟨S8192x1000, .i32⟩
  | 102 => ⟨S8192x1000, .i32⟩
  | 103 => ⟨S8192x1000, .i32⟩
  | 104 => ⟨S8192x1000, .i32⟩
  | 105 => ⟨S_, .i32⟩
  | 106 => ⟨S8192x1000, .i32⟩
  | 107 => ⟨S8192x1000, .i32⟩
  | 108 => ⟨S8192x1000, .i32⟩
  | 109 => ⟨S_, .i32⟩
  | 110 => ⟨S8192x1000, .i32⟩
  | 111 => ⟨S8192x1000, .i32⟩
  | 112 => ⟨S_, .i32⟩
  | 113 => ⟨S8192x1000, .i32⟩
  | 114 => ⟨S8192x1000, .i32⟩
  | 115 => ⟨S8192x1000, .i32⟩
  | 116 => ⟨S8192x1000, .i32⟩
  | 117 => ⟨S8192x1000, .i32⟩
  | 118 => ⟨S_, .i32⟩
  | 119 => ⟨S8192x1000, .i32⟩
  | 120 => ⟨S8192x1000, .i32⟩
  | 121 => ⟨S_, .i32⟩
  | 122 => ⟨S8192x1000, .i32⟩
  | 123 => ⟨S8192x1000, .i32⟩
  | 124 => ⟨S8192x1000, .i32⟩
  | 125 => ⟨S8192x1000, .i32⟩
  | 126 => ⟨S8192x1000, .i32⟩
  | 127 => ⟨S_, .i32⟩
  | _ => ⟨S1x8192, .i32⟩

abbrev hbmTy0_1 (i : Nat) : BufTy := match i % 128 with
  | 0 => ⟨S8192x1000, .i32⟩
  | 1 => ⟨S8192x1000, .i32⟩
  | 2 => ⟨S_, .i32⟩
  | 3 => ⟨S8192x1000, .i32⟩
  | 4 => ⟨S8192x1000, .i32⟩
  | 5 => ⟨S8192x1000, .i32⟩
  | 6 => ⟨S8192x1000, .i32⟩
  | 7 => ⟨S8192x1000, .i32⟩
  | 8 => ⟨S_, .i32⟩
  | 9 => ⟨S8192x1000, .i32⟩
  | 10 => ⟨S8192x1000, .i32⟩
  | 11 => ⟨S_, .i32⟩
  | 12 => ⟨S8192x1000, .i32⟩
  | 13 => ⟨S8192x1000, .i32⟩
  | 14 => ⟨S8192x1000, .i32⟩
  | 15 => ⟨S8192x1000, .i32⟩
  | 16 => ⟨S8192x1000, .i32⟩
  | 17 => ⟨S8192x1000, .i32⟩
  | 18 => ⟨S8192x1000, .i32⟩
  | 19 => ⟨S8192x1000, .i32⟩
  | 20 => ⟨S_, .i32⟩
  | 21 => ⟨S8192x1000, .i32⟩
  | 22 => ⟨S8192x1000, .i32⟩
  | 23 => ⟨S8192x1000, .i32⟩
  | 24 => ⟨S_, .i32⟩
  | 25 => ⟨S8192x1000, .i32⟩
  | 26 => ⟨S8192x1000, .i32⟩
  | 27 => ⟨S_, .i32⟩
  | 28 => ⟨S8192x1000, .i32⟩
  | 29 => ⟨S8192x1000, .i32⟩
  | 30 => ⟨S8192x1000, .i32⟩
  | 31 => ⟨S8192x1000, .i32⟩
  | 32 => ⟨S8192x1000, .i32⟩
  | 33 => ⟨S_, .i32⟩
  | 34 => ⟨S8192x1000, .i32⟩
  | 35 => ⟨S8192x1000, .i32⟩
  | 36 => ⟨S_, .i32⟩
  | 37 => ⟨S8192x1000, .i32⟩
  | 38 => ⟨S8192x1000, .i32⟩
  | 39 => ⟨S8192x1000, .i32⟩
  | 40 => ⟨S8192x1000, .i32⟩
  | 41 => ⟨S8192x1000, .i32⟩
  | 42 => ⟨S_, .i32⟩
  | 43 => ⟨S8192x1000, .i32⟩
  | 44 => ⟨S8192x1000, .i32⟩
  | 45 => ⟨S_, .i32⟩
  | 46 => ⟨S8192x1000, .i32⟩
  | 47 => ⟨S8192x1000, .i32⟩
  | 48 => ⟨S8192x1000, .i32⟩
  | 49 => ⟨S8192x1000, .i32⟩
  | 50 => ⟨S8192x1000, .i32⟩
  | 51 => ⟨S_, .i32⟩
  | 52 => ⟨S8192x1000, .i32⟩
  | 53 => ⟨S8192x1000, .i32⟩
  | 54 => ⟨S_, .i32⟩
  | 55 => ⟨S8192x1000, .i32⟩
  | 56 => ⟨S8192x1000, .i32⟩
  | 57 => ⟨S8192x1000, .i32⟩
  | 58 => ⟨S8192x1000, .i32⟩
  | 59 => ⟨S8192x1000, .i32⟩
  | 60 => ⟨S8192x1000, .i32⟩
  | 61 => ⟨S8192x1000, .i32⟩
  | 62 => ⟨S8192x1000, .i32⟩
  | 63 => ⟨S_, .i32⟩
  | 64 => ⟨S8192x1000, .i32⟩
  | 65 => ⟨S8192x1000, .i32⟩
  | 66 => ⟨S8192x1000, .i32⟩
  | 67 => ⟨S_, .i32⟩
  | 68 => ⟨S8192x1000, .i32⟩
  | 69 => ⟨S8192x1000, .i32⟩
  | 70 => ⟨S_, .i32⟩
  | 71 => ⟨S8192x1000, .i32⟩
  | 72 => ⟨S8192x1000, .i32⟩
  | 73 => ⟨S8192x1000, .i32⟩
  | 74 => ⟨S8192x1000, .i32⟩
  | 75 => ⟨S8192x1000, .i32⟩
  | 76 => ⟨S_, .i32⟩
  | 77 => ⟨S8192x1000, .i32⟩
  | 78 => ⟨S8192x1000, .i32⟩
  | 79 => ⟨S_, .i32⟩
  | 80 => ⟨S8192x1000, .i32⟩
  | 81 => ⟨S8192x1000, .i32⟩
  | 82 => ⟨S8192x1000, .i32⟩
  | 83 => ⟨S8192x1000, .i32⟩
  | 84 => ⟨S8192x1000, .i32⟩
  | 85 => ⟨S_, .i32⟩
  | 86 => ⟨S8192x1000, .i32⟩
  | 87 => ⟨S8192x1000, .i32⟩
  | 88 => ⟨S_, .i32⟩
  | 89 => ⟨S8192x1000, .i32⟩
  | 90 => ⟨S8192x1000, .i32⟩
  | 91 => ⟨S8192x1000, .i32⟩
  | 92 => ⟨S8192x1000, .i32⟩
  | 93 => ⟨S8192x1000, .i32⟩
  | 94 => ⟨S_, .i32⟩
  | 95 => ⟨S8192x1000, .i32⟩
  | 96 => ⟨S8192x1000, .i32⟩
  | 97 => ⟨S_, .i32⟩
  | 98 => ⟨S8192x1000, .i32⟩
  | 99 => ⟨S8192x1000, .i32⟩
  | 100 => ⟨S8192x1000, .i32⟩
  | 101 => ⟨S8192x1000, .i32⟩
  | 102 => ⟨S8192x1000, .i32⟩
  | 103 => ⟨S8192x1000, .i32⟩
  | 104 => ⟨S8192x1000, .i32⟩
  | 105 => ⟨S8192x1000, .i32⟩
  | 106 => ⟨S_, .i32⟩
  | 107 => ⟨S8192x1000, .i32⟩
  | 108 => ⟨S8192x1000, .i32⟩
  | 109 => ⟨S8192x1000, .i32⟩
  | 110 => ⟨S_, .i32⟩
  | 111 => ⟨S8192x1000, .i32⟩
  | 112 => ⟨S8192x1000, .i32⟩
  | 113 => ⟨S_, .i32⟩
  | 114 => ⟨S8192x1000, .i32⟩
  | 115 => ⟨S8192x1000, .i32⟩
  | 116 => ⟨S8192x1000, .i32⟩
  | 117 => ⟨S8192x1000, .i32⟩
  | 118 => ⟨S8192x1000, .i32⟩
  | 119 => ⟨S_, .i32⟩
  | 120 => ⟨S8192x1000, .i32⟩
  | 121 => ⟨S8192x1000, .i32⟩
  | 122 => ⟨S_, .i32⟩
  | 123 => ⟨S8192x1000, .i32⟩
  | 124 => ⟨S8192x1000, .i32⟩
  | 125 => ⟨S8192x1000, .i32⟩
  | 126 => ⟨S8192x1000, .i32⟩
  | 127 => ⟨S8192x1000, .i32⟩
  | _ => ⟨S1x8192, .i32⟩

abbrev hbmTy0_2 (i : Nat) : BufTy := match i % 128 with
  | 0 => ⟨S_, .i32⟩
  | 1 => ⟨S8192x1000, .i32⟩
  | 2 => ⟨S8192x1000, .i32⟩
  | 3 => ⟨S_, .i32⟩
  | 4 => ⟨S8192x1000, .i32⟩
  | 5 => ⟨S8192x1000, .i32⟩
  | 6 => ⟨S8192x1000, .i32⟩
  | 7 => ⟨S8192x1000, .i32⟩
  | 8 => ⟨S8192x1000, .i32⟩
  | 9 => ⟨S_, .i32⟩
  | 10 => ⟨S8192x1000, .i32⟩
  | 11 => ⟨S8192x1000, .i32⟩
  | 12 => ⟨S_, .i32⟩
  | 13 => ⟨S8192x1000, .i32⟩
  | 14 => ⟨S8192x1000, .i32⟩
  | 15 => ⟨S8192x1000, .i32⟩
  | 16 => ⟨S8192x1000, .i32⟩
  | 17 => ⟨S8192x1000, .i32⟩
  | 18 => ⟨S8192x1000, .i32⟩
  | 19 => ⟨S8192x1000, .i32⟩
  | 20 => ⟨S8192x1000, .i32⟩
  | 21 => ⟨S_, .i32⟩
  | 22 => ⟨S8192x1000, .i32⟩
  | 23 => ⟨S8192x1000, .i32⟩
  | 24 => ⟨S8192x1000, .i32⟩
  | 25 => ⟨S_, .i32⟩
  | 26 => ⟨S8192x1000, .i32⟩
  | 27 => ⟨S8192x1000, .i32⟩
  | 28 => ⟨S_, .i32⟩
  | 29 => ⟨S8192x1000, .i32⟩
  | 30 => ⟨S8192x1000, .i32⟩
  | 31 => ⟨S8192x1000, .f32⟩
  | 32 => ⟨S_, .f32⟩
  | 33 => ⟨S8192x1000, .f32⟩
  | 34 => ⟨S8192x1000, .f32⟩
  | 35 => ⟨S1x1, .f32⟩
  | 36 => ⟨S8192x1000, .f32⟩
  | 37 => ⟨S8192x1000, .f32⟩
  | 38 => ⟨S8192x1000, .f32⟩
  | 39 => ⟨S8192x1000, .f32⟩
  | 40 => ⟨S8192x1000, .f32⟩
  | 41 => ⟨S8192x1000, .f32⟩
  | 42 => ⟨S8192x1000, .f32⟩
  | 43 => ⟨S8192x1000, .f32⟩
  | 44 => ⟨S8192x1000, .f32⟩
  | 45 => ⟨S8192x1000, .f32⟩
  | 46 => ⟨S8192x1000, .f32⟩
  | 47 => ⟨S8192x1000, .i32⟩
  | 48 => ⟨S_, .f32⟩
  | 49 => ⟨S_, .i32⟩
  | 50 => ⟨S8192, .f32⟩
  | 51 => ⟨S8192, .i32⟩
  | 52 => ⟨S1x8192, .i32⟩
  | _ => ⟨S1x8192, .i32⟩

abbrev hbmTy (i : Nat) : BufTy := match i / 128 with
  | 0 => hbmTy0_0 i
  | 1 => hbmTy0_1 i
  | 2 => hbmTy0_2 i
  | _ => ⟨S1x8192, .i32⟩

abbrev bufTy : (tb : Table) → Fin (tcTables nBuf tb) → BufTy
  | .hbm, ⟨i, _⟩ => hbmTy i
  | _, _ => ⟨S1x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_cst_0 : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_c_0 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_call0_c_1 : Ref sig .tc := ⟨.hbm, 53, rfl⟩
abbrev main_call0_call0_v14 : Ref sig .tc := ⟨.hbm, 54, rfl⟩
abbrev main_call0_call0_v15 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_call0_v0 : Ref sig .tc := ⟨.hbm, 58, rfl⟩
abbrev main_call0_call0_call0_c : Ref sig .tc := ⟨.hbm, 59, rfl⟩
abbrev main_call0_call0_call0_v1 : Ref sig .tc := ⟨.hbm, 60, rfl⟩
abbrev main_call0_call0_call0_v2 : Ref sig .tc := ⟨.hbm, 61, rfl⟩
abbrev main_call0_call0_call0_v3 : Ref sig .tc := ⟨.hbm, 62, rfl⟩
abbrev main_call0_call0_call0_v4 : Ref sig .tc := ⟨.hbm, 63, rfl⟩
abbrev main_call0_call0_call0_v5 : Ref sig .tc := ⟨.hbm, 64, rfl⟩
abbrev main_call0_call0_call0_v6 : Ref sig .tc := ⟨.hbm, 65, rfl⟩
abbrev main_call0_call0_call0_c_0 : Ref sig .tc := ⟨.hbm, 66, rfl⟩
abbrev main_call0_call0_call0_v7 : Ref sig .tc := ⟨.hbm, 67, rfl⟩
abbrev main_call0_call0_call0_v8 : Ref sig .tc := ⟨.hbm, 68, rfl⟩
abbrev main_call0_call0_call0_c_1 : Ref sig .tc := ⟨.hbm, 69, rfl⟩
abbrev main_call0_call0_call0_v9 : Ref sig .tc := ⟨.hbm, 70, rfl⟩
abbrev main_call0_call0_call0_v10 : Ref sig .tc := ⟨.hbm, 71, rfl⟩
abbrev main_call0_call0_call0_v11 : Ref sig .tc := ⟨.hbm, 72, rfl⟩
abbrev main_call0_call0_call0_v12 : Ref sig .tc := ⟨.hbm, 73, rfl⟩
abbrev main_call0_call0_call0_v13 : Ref sig .tc := ⟨.hbm, 74, rfl⟩
abbrev main_call0_call0_call0_c_2 : Ref sig .tc := ⟨.hbm, 75, rfl⟩
abbrev main_call0_call0_call0_v14 : Ref sig .tc := ⟨.hbm, 76, rfl⟩
abbrev main_call0_call0_call0_v15 : Ref sig .tc := ⟨.hbm, 77, rfl⟩
abbrev main_call0_call0_call0_c_3 : Ref sig .tc := ⟨.hbm, 78, rfl⟩
abbrev main_call0_call0_call0_v16 : Ref sig .tc := ⟨.hbm, 79, rfl⟩
abbrev main_call0_call0_call0_v17 : Ref sig .tc := ⟨.hbm, 80, rfl⟩
abbrev main_call0_call0_call0_v18 : Ref sig .tc := ⟨.hbm, 81, rfl⟩
abbrev main_call0_call0_call0_v19 : Ref sig .tc := ⟨.hbm, 82, rfl⟩
abbrev main_call0_call0_call0_v20 : Ref sig .tc := ⟨.hbm, 83, rfl⟩
abbrev main_call0_call0_call0_c_4 : Ref sig .tc := ⟨.hbm, 84, rfl⟩
abbrev main_call0_call0_call0_v21 : Ref sig .tc := ⟨.hbm, 85, rfl⟩
abbrev main_call0_call0_call0_v22 : Ref sig .tc := ⟨.hbm, 86, rfl⟩
abbrev main_call0_call0_call0_c_5 : Ref sig .tc := ⟨.hbm, 87, rfl⟩
abbrev main_call0_call0_call0_v23 : Ref sig .tc := ⟨.hbm, 88, rfl⟩
abbrev main_call0_call0_call0_v24 : Ref sig .tc := ⟨.hbm, 89, rfl⟩
abbrev main_call0_call0_call0_v25 : Ref sig .tc := ⟨.hbm, 90, rfl⟩
abbrev main_call0_call0_call0_v26 : Ref sig .tc := ⟨.hbm, 91, rfl⟩
abbrev main_call0_call0_call0_v27 : Ref sig .tc := ⟨.hbm, 92, rfl⟩
abbrev main_call0_call0_call0_c_6 : Ref sig .tc := ⟨.hbm, 93, rfl⟩
abbrev main_call0_call0_call0_v28 : Ref sig .tc := ⟨.hbm, 94, rfl⟩
abbrev main_call0_call0_call0_v29 : Ref sig .tc := ⟨.hbm, 95, rfl⟩
abbrev main_call0_call0_call0_c_7 : Ref sig .tc := ⟨.hbm, 96, rfl⟩
abbrev main_call0_call0_call0_v30 : Ref sig .tc := ⟨.hbm, 97, rfl⟩
abbrev main_call0_call0_call0_v31 : Ref sig .tc := ⟨.hbm, 98, rfl⟩
abbrev main_call0_call0_call0_v32 : Ref sig .tc := ⟨.hbm, 99, rfl⟩
abbrev main_call0_call0_call0_v33 : Ref sig .tc := ⟨.hbm, 100, rfl⟩
abbrev main_call0_call0_call0_v34 : Ref sig .tc := ⟨.hbm, 101, rfl⟩
abbrev main_call0_call0_call0_v35 : Ref sig .tc := ⟨.hbm, 102, rfl⟩
abbrev main_call0_call0_call0_v36 : Ref sig .tc := ⟨.hbm, 103, rfl⟩
abbrev main_call0_call0_call0_v37 : Ref sig .tc := ⟨.hbm, 104, rfl⟩
abbrev main_call0_call0_call0_c_8 : Ref sig .tc := ⟨.hbm, 105, rfl⟩
abbrev main_call0_call0_call0_v38 : Ref sig .tc := ⟨.hbm, 106, rfl⟩
abbrev main_call0_call0_call0_v39 : Ref sig .tc := ⟨.hbm, 107, rfl⟩
abbrev main_call0_call0_call0_v40 : Ref sig .tc := ⟨.hbm, 108, rfl⟩
abbrev main_call0_call0_call0_c_9 : Ref sig .tc := ⟨.hbm, 109, rfl⟩
abbrev main_call0_call0_call0_v41 : Ref sig .tc := ⟨.hbm, 110, rfl⟩
abbrev main_call0_call0_call0_v42 : Ref sig .tc := ⟨.hbm, 111, rfl⟩
abbrev main_call0_call0_call0_c_10 : Ref sig .tc := ⟨.hbm, 112, rfl⟩
abbrev main_call0_call0_call0_v43 : Ref sig .tc := ⟨.hbm, 113, rfl⟩
abbrev main_call0_call0_call0_v44 : Ref sig .tc := ⟨.hbm, 114, rfl⟩
abbrev main_call0_call0_call0_v45 : Ref sig .tc := ⟨.hbm, 115, rfl⟩
abbrev main_call0_call0_call0_v46 : Ref sig .tc := ⟨.hbm, 116, rfl⟩
abbrev main_call0_call0_call0_v47 : Ref sig .tc := ⟨.hbm, 117, rfl⟩
abbrev main_call0_call0_call0_c_11 : Ref sig .tc := ⟨.hbm, 118, rfl⟩
abbrev main_call0_call0_call0_v48 : Ref sig .tc := ⟨.hbm, 119, rfl⟩
abbrev main_call0_call0_call0_v49 : Ref sig .tc := ⟨.hbm, 120, rfl⟩
abbrev main_call0_call0_call0_c_12 : Ref sig .tc := ⟨.hbm, 121, rfl⟩
abbrev main_call0_call0_call0_v50 : Ref sig .tc := ⟨.hbm, 122, rfl⟩
abbrev main_call0_call0_call0_v51 : Ref sig .tc := ⟨.hbm, 123, rfl⟩
abbrev main_call0_call0_call0_v52 : Ref sig .tc := ⟨.hbm, 124, rfl⟩
abbrev main_call0_call0_call0_v53 : Ref sig .tc := ⟨.hbm, 125, rfl⟩
abbrev main_call0_call0_call0_v54 : Ref sig .tc := ⟨.hbm, 126, rfl⟩
abbrev main_call0_call0_call0_c_13 : Ref sig .tc := ⟨.hbm, 127, rfl⟩
abbrev main_call0_call0_call0_v55 : Ref sig .tc := ⟨.hbm, 128, rfl⟩
abbrev main_call0_call0_call0_v56 : Ref sig .tc := ⟨.hbm, 129, rfl⟩
abbrev main_call0_call0_call0_c_14 : Ref sig .tc := ⟨.hbm, 130, rfl⟩
abbrev main_call0_call0_call0_v57 : Ref sig .tc := ⟨.hbm, 131, rfl⟩
abbrev main_call0_call0_call0_v58 : Ref sig .tc := ⟨.hbm, 132, rfl⟩
abbrev main_call0_call0_call0_v59 : Ref sig .tc := ⟨.hbm, 133, rfl⟩
abbrev main_call0_call0_call0_v60 : Ref sig .tc := ⟨.hbm, 134, rfl⟩
abbrev main_call0_call0_call0_v61 : Ref sig .tc := ⟨.hbm, 135, rfl⟩
abbrev main_call0_call0_call0_c_15 : Ref sig .tc := ⟨.hbm, 136, rfl⟩
abbrev main_call0_call0_call0_v62 : Ref sig .tc := ⟨.hbm, 137, rfl⟩
abbrev main_call0_call0_call0_v63 : Ref sig .tc := ⟨.hbm, 138, rfl⟩
abbrev main_call0_call0_call0_c_16 : Ref sig .tc := ⟨.hbm, 139, rfl⟩
abbrev main_call0_call0_call0_v64 : Ref sig .tc := ⟨.hbm, 140, rfl⟩
abbrev main_call0_call0_call0_v65 : Ref sig .tc := ⟨.hbm, 141, rfl⟩
abbrev main_call0_call0_call0_v66 : Ref sig .tc := ⟨.hbm, 142, rfl⟩
abbrev main_call0_call0_call0_v67 : Ref sig .tc := ⟨.hbm, 143, rfl⟩
abbrev main_call0_call0_call0_v68 : Ref sig .tc := ⟨.hbm, 144, rfl⟩
abbrev main_call0_call0_call0_v69 : Ref sig .tc := ⟨.hbm, 145, rfl⟩
abbrev main_call0_call0_call0_v70 : Ref sig .tc := ⟨.hbm, 146, rfl⟩
abbrev main_call0_call0_call0_v71 : Ref sig .tc := ⟨.hbm, 147, rfl⟩
abbrev main_call0_call0_call0_c_17 : Ref sig .tc := ⟨.hbm, 148, rfl⟩
abbrev main_call0_call0_call0_v72 : Ref sig .tc := ⟨.hbm, 149, rfl⟩
abbrev main_call0_call0_call0_v73 : Ref sig .tc := ⟨.hbm, 150, rfl⟩
abbrev main_call0_call0_call0_v74 : Ref sig .tc := ⟨.hbm, 151, rfl⟩
abbrev main_call0_call0_call0_c_18 : Ref sig .tc := ⟨.hbm, 152, rfl⟩
abbrev main_call0_call0_call0_v75 : Ref sig .tc := ⟨.hbm, 153, rfl⟩
abbrev main_call0_call0_call0_v76 : Ref sig .tc := ⟨.hbm, 154, rfl⟩
abbrev main_call0_call0_call0_c_19 : Ref sig .tc := ⟨.hbm, 155, rfl⟩
abbrev main_call0_call0_call0_v77 : Ref sig .tc := ⟨.hbm, 156, rfl⟩
abbrev main_call0_call0_call0_v78 : Ref sig .tc := ⟨.hbm, 157, rfl⟩
abbrev main_call0_call0_call0_v79 : Ref sig .tc := ⟨.hbm, 158, rfl⟩
abbrev main_call0_call0_call0_v80 : Ref sig .tc := ⟨.hbm, 159, rfl⟩
abbrev main_call0_call0_call0_v81 : Ref sig .tc := ⟨.hbm, 160, rfl⟩
abbrev main_call0_call0_call0_c_20 : Ref sig .tc := ⟨.hbm, 161, rfl⟩
abbrev main_call0_call0_call0_v82 : Ref sig .tc := ⟨.hbm, 162, rfl⟩
abbrev main_call0_call0_call0_v83 : Ref sig .tc := ⟨.hbm, 163, rfl⟩
abbrev main_call0_call0_call0_c_21 : Ref sig .tc := ⟨.hbm, 164, rfl⟩
abbrev main_call0_call0_call0_v84 : Ref sig .tc := ⟨.hbm, 165, rfl⟩
abbrev main_call0_call0_call0_v85 : Ref sig .tc := ⟨.hbm, 166, rfl⟩
abbrev main_call0_call0_call0_v86 : Ref sig .tc := ⟨.hbm, 167, rfl⟩
abbrev main_call0_call0_call0_v87 : Ref sig .tc := ⟨.hbm, 168, rfl⟩
abbrev main_call0_call0_call0_v88 : Ref sig .tc := ⟨.hbm, 169, rfl⟩
abbrev main_call0_call0_call0_c_22 : Ref sig .tc := ⟨.hbm, 170, rfl⟩
abbrev main_call0_call0_call0_v89 : Ref sig .tc := ⟨.hbm, 171, rfl⟩
abbrev main_call0_call0_call0_v90 : Ref sig .tc := ⟨.hbm, 172, rfl⟩
abbrev main_call0_call0_call0_c_23 : Ref sig .tc := ⟨.hbm, 173, rfl⟩
abbrev main_call0_call0_call0_v91 : Ref sig .tc := ⟨.hbm, 174, rfl⟩
abbrev main_call0_call0_call0_v92 : Ref sig .tc := ⟨.hbm, 175, rfl⟩
abbrev main_call0_call0_call0_v93 : Ref sig .tc := ⟨.hbm, 176, rfl⟩
abbrev main_call0_call0_call0_v94 : Ref sig .tc := ⟨.hbm, 177, rfl⟩
abbrev main_call0_call0_call0_v95 : Ref sig .tc := ⟨.hbm, 178, rfl⟩
abbrev main_call0_call0_call0_c_24 : Ref sig .tc := ⟨.hbm, 179, rfl⟩
abbrev main_call0_call0_call0_v96 : Ref sig .tc := ⟨.hbm, 180, rfl⟩
abbrev main_call0_call0_call0_v97 : Ref sig .tc := ⟨.hbm, 181, rfl⟩
abbrev main_call0_call0_call0_c_25 : Ref sig .tc := ⟨.hbm, 182, rfl⟩
abbrev main_call0_call0_call0_v98 : Ref sig .tc := ⟨.hbm, 183, rfl⟩
abbrev main_call0_call0_call0_v99 : Ref sig .tc := ⟨.hbm, 184, rfl⟩
abbrev main_call0_call0_call0_v100 : Ref sig .tc := ⟨.hbm, 185, rfl⟩
abbrev main_call0_call0_call0_v101 : Ref sig .tc := ⟨.hbm, 186, rfl⟩
abbrev main_call0_call0_call0_v102 : Ref sig .tc := ⟨.hbm, 187, rfl⟩
abbrev main_call0_call0_call0_v103 : Ref sig .tc := ⟨.hbm, 188, rfl⟩
abbrev main_call0_call0_call0_v104 : Ref sig .tc := ⟨.hbm, 189, rfl⟩
abbrev main_call0_call0_call0_v105 : Ref sig .tc := ⟨.hbm, 190, rfl⟩
abbrev main_call0_call0_call0_c_26 : Ref sig .tc := ⟨.hbm, 191, rfl⟩
abbrev main_call0_call0_call0_v106 : Ref sig .tc := ⟨.hbm, 192, rfl⟩
abbrev main_call0_call0_call0_v107 : Ref sig .tc := ⟨.hbm, 193, rfl⟩
abbrev main_call0_call0_call0_v108 : Ref sig .tc := ⟨.hbm, 194, rfl⟩
abbrev main_call0_call0_call0_c_27 : Ref sig .tc := ⟨.hbm, 195, rfl⟩
abbrev main_call0_call0_call0_v109 : Ref sig .tc := ⟨.hbm, 196, rfl⟩
abbrev main_call0_call0_call0_v110 : Ref sig .tc := ⟨.hbm, 197, rfl⟩
abbrev main_call0_call0_call0_c_28 : Ref sig .tc := ⟨.hbm, 198, rfl⟩
abbrev main_call0_call0_call0_v111 : Ref sig .tc := ⟨.hbm, 199, rfl⟩
abbrev main_call0_call0_call0_v112 : Ref sig .tc := ⟨.hbm, 200, rfl⟩
abbrev main_call0_call0_call0_v113 : Ref sig .tc := ⟨.hbm, 201, rfl⟩
abbrev main_call0_call0_call0_v114 : Ref sig .tc := ⟨.hbm, 202, rfl⟩
abbrev main_call0_call0_call0_v115 : Ref sig .tc := ⟨.hbm, 203, rfl⟩
abbrev main_call0_call0_call0_c_29 : Ref sig .tc := ⟨.hbm, 204, rfl⟩
abbrev main_call0_call0_call0_v116 : Ref sig .tc := ⟨.hbm, 205, rfl⟩
abbrev main_call0_call0_call0_v117 : Ref sig .tc := ⟨.hbm, 206, rfl⟩
abbrev main_call0_call0_call0_c_30 : Ref sig .tc := ⟨.hbm, 207, rfl⟩
abbrev main_call0_call0_call0_v118 : Ref sig .tc := ⟨.hbm, 208, rfl⟩
abbrev main_call0_call0_call0_v119 : Ref sig .tc := ⟨.hbm, 209, rfl⟩
abbrev main_call0_call0_call0_v120 : Ref sig .tc := ⟨.hbm, 210, rfl⟩
abbrev main_call0_call0_call0_v121 : Ref sig .tc := ⟨.hbm, 211, rfl⟩
abbrev main_call0_call0_call0_v122 : Ref sig .tc := ⟨.hbm, 212, rfl⟩
abbrev main_call0_call0_call0_c_31 : Ref sig .tc := ⟨.hbm, 213, rfl⟩
abbrev main_call0_call0_call0_v123 : Ref sig .tc := ⟨.hbm, 214, rfl⟩
abbrev main_call0_call0_call0_v124 : Ref sig .tc := ⟨.hbm, 215, rfl⟩
abbrev main_call0_call0_call0_c_32 : Ref sig .tc := ⟨.hbm, 216, rfl⟩
abbrev main_call0_call0_call0_v125 : Ref sig .tc := ⟨.hbm, 217, rfl⟩
abbrev main_call0_call0_call0_v126 : Ref sig .tc := ⟨.hbm, 218, rfl⟩
abbrev main_call0_call0_call0_v127 : Ref sig .tc := ⟨.hbm, 219, rfl⟩
abbrev main_call0_call0_call0_v128 : Ref sig .tc := ⟨.hbm, 220, rfl⟩
abbrev main_call0_call0_call0_v129 : Ref sig .tc := ⟨.hbm, 221, rfl⟩
abbrev main_call0_call0_call0_c_33 : Ref sig .tc := ⟨.hbm, 222, rfl⟩
abbrev main_call0_call0_call0_v130 : Ref sig .tc := ⟨.hbm, 223, rfl⟩
abbrev main_call0_call0_call0_v131 : Ref sig .tc := ⟨.hbm, 224, rfl⟩
abbrev main_call0_call0_call0_c_34 : Ref sig .tc := ⟨.hbm, 225, rfl⟩
abbrev main_call0_call0_call0_v132 : Ref sig .tc := ⟨.hbm, 226, rfl⟩
abbrev main_call0_call0_call0_v133 : Ref sig .tc := ⟨.hbm, 227, rfl⟩
abbrev main_call0_call0_call0_v134 : Ref sig .tc := ⟨.hbm, 228, rfl⟩
abbrev main_call0_call0_call0_v135 : Ref sig .tc := ⟨.hbm, 229, rfl⟩
abbrev main_call0_call0_call0_v136 : Ref sig .tc := ⟨.hbm, 230, rfl⟩
abbrev main_call0_call0_call0_v137 : Ref sig .tc := ⟨.hbm, 231, rfl⟩
abbrev main_call0_call0_call0_v138 : Ref sig .tc := ⟨.hbm, 232, rfl⟩
abbrev main_call0_call0_call0_v139 : Ref sig .tc := ⟨.hbm, 233, rfl⟩
abbrev main_call0_call0_call0_c_35 : Ref sig .tc := ⟨.hbm, 234, rfl⟩
abbrev main_call0_call0_call0_v140 : Ref sig .tc := ⟨.hbm, 235, rfl⟩
abbrev main_call0_call0_call0_v141 : Ref sig .tc := ⟨.hbm, 236, rfl⟩
abbrev main_call0_call0_call0_v142 : Ref sig .tc := ⟨.hbm, 237, rfl⟩
abbrev main_call0_call0_call0_c_36 : Ref sig .tc := ⟨.hbm, 238, rfl⟩
abbrev main_call0_call0_call0_v143 : Ref sig .tc := ⟨.hbm, 239, rfl⟩
abbrev main_call0_call0_call0_v144 : Ref sig .tc := ⟨.hbm, 240, rfl⟩
abbrev main_call0_call0_call0_c_37 : Ref sig .tc := ⟨.hbm, 241, rfl⟩
abbrev main_call0_call0_call0_v145 : Ref sig .tc := ⟨.hbm, 242, rfl⟩
abbrev main_call0_call0_call0_v146 : Ref sig .tc := ⟨.hbm, 243, rfl⟩
abbrev main_call0_call0_call0_v147 : Ref sig .tc := ⟨.hbm, 244, rfl⟩
abbrev main_call0_call0_call0_v148 : Ref sig .tc := ⟨.hbm, 245, rfl⟩
abbrev main_call0_call0_call0_v149 : Ref sig .tc := ⟨.hbm, 246, rfl⟩
abbrev main_call0_call0_call0_c_38 : Ref sig .tc := ⟨.hbm, 247, rfl⟩
abbrev main_call0_call0_call0_v150 : Ref sig .tc := ⟨.hbm, 248, rfl⟩
abbrev main_call0_call0_call0_v151 : Ref sig .tc := ⟨.hbm, 249, rfl⟩
abbrev main_call0_call0_call0_c_39 : Ref sig .tc := ⟨.hbm, 250, rfl⟩
abbrev main_call0_call0_call0_v152 : Ref sig .tc := ⟨.hbm, 251, rfl⟩
abbrev main_call0_call0_call0_v153 : Ref sig .tc := ⟨.hbm, 252, rfl⟩
abbrev main_call0_call0_call0_v154 : Ref sig .tc := ⟨.hbm, 253, rfl⟩
abbrev main_call0_call0_call0_v155 : Ref sig .tc := ⟨.hbm, 254, rfl⟩
abbrev main_call0_call0_call0_v156 : Ref sig .tc := ⟨.hbm, 255, rfl⟩
abbrev main_call0_call0_call0_c_40 : Ref sig .tc := ⟨.hbm, 256, rfl⟩
abbrev main_call0_call0_call0_v157 : Ref sig .tc := ⟨.hbm, 257, rfl⟩
abbrev main_call0_call0_call0_v158 : Ref sig .tc := ⟨.hbm, 258, rfl⟩
abbrev main_call0_call0_call0_c_41 : Ref sig .tc := ⟨.hbm, 259, rfl⟩
abbrev main_call0_call0_call0_v159 : Ref sig .tc := ⟨.hbm, 260, rfl⟩
abbrev main_call0_call0_call0_v160 : Ref sig .tc := ⟨.hbm, 261, rfl⟩
abbrev main_call0_call0_call0_v161 : Ref sig .tc := ⟨.hbm, 262, rfl⟩
abbrev main_call0_call0_call0_v162 : Ref sig .tc := ⟨.hbm, 263, rfl⟩
abbrev main_call0_call0_call0_v163 : Ref sig .tc := ⟨.hbm, 264, rfl⟩
abbrev main_call0_call0_call0_c_42 : Ref sig .tc := ⟨.hbm, 265, rfl⟩
abbrev main_call0_call0_call0_v164 : Ref sig .tc := ⟨.hbm, 266, rfl⟩
abbrev main_call0_call0_call0_v165 : Ref sig .tc := ⟨.hbm, 267, rfl⟩
abbrev main_call0_call0_call0_c_43 : Ref sig .tc := ⟨.hbm, 268, rfl⟩
abbrev main_call0_call0_call0_v166 : Ref sig .tc := ⟨.hbm, 269, rfl⟩
abbrev main_call0_call0_call0_v167 : Ref sig .tc := ⟨.hbm, 270, rfl⟩
abbrev main_call0_call0_call0_v168 : Ref sig .tc := ⟨.hbm, 271, rfl⟩
abbrev main_call0_call0_call0_v169 : Ref sig .tc := ⟨.hbm, 272, rfl⟩
abbrev main_call0_call0_call0_v170 : Ref sig .tc := ⟨.hbm, 273, rfl⟩
abbrev main_call0_call0_v18_0 : Ref sig .tc := ⟨.hbm, 274, rfl⟩
abbrev main_call0_call0_call0_v172 : Ref sig .tc := ⟨.hbm, 275, rfl⟩
abbrev main_call0_call0_call0_v173 : Ref sig .tc := ⟨.hbm, 276, rfl⟩
abbrev main_call0_call0_call0_c_44 : Ref sig .tc := ⟨.hbm, 277, rfl⟩
abbrev main_call0_call0_call0_v174 : Ref sig .tc := ⟨.hbm, 278, rfl⟩
abbrev main_call0_call0_v18_1 : Ref sig .tc := ⟨.hbm, 279, rfl⟩
abbrev main_call0_call0_v19 : Ref sig .tc := ⟨.hbm, 280, rfl⟩
abbrev main_call0_call0_c_2 : Ref sig .tc := ⟨.hbm, 281, rfl⟩
abbrev main_call0_call0_v20 : Ref sig .tc := ⟨.hbm, 282, rfl⟩
abbrev main_call0_call0_v21 : Ref sig .tc := ⟨.hbm, 283, rfl⟩
abbrev main_call0_call0_c_3 : Ref sig .tc := ⟨.hbm, 284, rfl⟩
abbrev main_call0_call0_v22 : Ref sig .tc := ⟨.hbm, 285, rfl⟩
abbrev main_call0_call0_v23 : Ref sig .tc := ⟨.hbm, 286, rfl⟩
abbrev main_call0_call0_v24 : Ref sig .tc := ⟨.hbm, 287, rfl⟩
abbrev main_call0_call0_cst : Ref sig .tc := ⟨.hbm, 288, rfl⟩
abbrev main_call0_call0_v25 : Ref sig .tc := ⟨.hbm, 289, rfl⟩
abbrev main_call0_call0_v26 : Ref sig .tc := ⟨.hbm, 290, rfl⟩
abbrev main_call0_call0_v27 : Ref sig .tc := ⟨.hbm, 291, rfl⟩
abbrev main_call0_call0_v28 : Ref sig .tc := ⟨.hbm, 292, rfl⟩
abbrev main_call0_call0_v29 : Ref sig .tc := ⟨.hbm, 293, rfl⟩
abbrev main_call0_call0_v30 : Ref sig .tc := ⟨.hbm, 294, rfl⟩
abbrev main_call0_call0_v31 : Ref sig .tc := ⟨.hbm, 295, rfl⟩
abbrev main_call0_call0_v32 : Ref sig .tc := ⟨.hbm, 296, rfl⟩
abbrev main_call0_v0 : Ref sig .tc := ⟨.hbm, 297, rfl⟩
abbrev main_call0_v1 : Ref sig .tc := ⟨.hbm, 298, rfl⟩
abbrev main_call0_v2 : Ref sig .tc := ⟨.hbm, 299, rfl⟩
abbrev main_call0_v3 : Ref sig .tc := ⟨.hbm, 300, rfl⟩
abbrev main_v24 : Ref sig .tc := ⟨.hbm, 301, rfl⟩
abbrev main_v25 : Ref sig .tc := ⟨.hbm, 302, rfl⟩
abbrev main_call1_v0 : Ref sig .tc := ⟨.hbm, 303, rfl⟩
abbrev main_call1_cst : Ref sig .tc := ⟨.hbm, 304, rfl⟩
abbrev main_call1_c : Ref sig .tc := ⟨.hbm, 305, rfl⟩
abbrev main_call1_v1_0 : Ref sig .tc := ⟨.hbm, 306, rfl⟩
abbrev main_v26 : Ref sig .tc := ⟨.hbm, 307, rfl⟩
abbrev main_v27 : Ref sig .tc := ⟨.hbm, 308, rfl⟩

abbrev nD : Nat := 1
abbrev τ : Topo := Topo.v7x

variable {F : FTy → Type} [FloatOps F]
-- ==== Proof.Line.lean ====
/- A straight line of host operations in which every buffer is written once, before it is read: after the whole line,
   each operation's result is still the operation's function of what its operands hold. The line is described by the
   buffer each operation writes and the ones it reads; the order condition is then a check on their indices. -/
module

public import Idealize.ShloMosaic.Lib.Claim
public import Idealize.ShloMosaic.Lib.StableHlo
public import Idealize.ShloMosaic.Lib.StableHlo.Run

@[expose] public section

namespace Cert.Line

open Idealize.ShloMosaic Idealize.ShloMosaic.StableHlo
open Idealize.ShloMosaic.TcCoe

variable {τ : Topo} {sig : RefSig} {Val : EltTy → Type}

/-- `op` writes the buffer `y` and nothing else, and what it writes depends on the buffers `rs` alone. -/
structure Desc (op : HloOp τ sig Val) (y : Ref sig .tc) (rs : List (Ref sig .tc)) : Prop where
  writes : op.writes = {(y : DevRef τ sig)}
  reads : ∀ V W : Valuation τ sig Val, (∀ r ∈ rs, V (r : DevRef τ sig) = W (r : DevRef τ sig)) →
    op.result V (y : DevRef τ sig) = op.result W (y : DevRef τ sig)
  bufs : op.bufs ⊆ tcRefs τ sig
  fresh : op.fresh = ∅

/-- A constant writes its result and reads nothing. -/
theorem desc_nullary (y : Ref sig .tc) (v : y.ty.Contents Val) (hy) :
    Desc (nullary (τ := τ) y v hy) y [] :=
  ⟨rfl, fun V W _ => by rw [nullary_result, nullary_result], nullary_bufs_sub .., rfl⟩

/-- An operation of one operand writes its result and reads the operand. -/
theorem desc_unary (x y : Ref sig .tc) (f : x.ty.Contents Val → y.ty.Contents Val) (hx hy) :
    Desc (unary (τ := τ) x y f hx hy) y [x] :=
  ⟨rfl, fun V W h => by rw [unary_result, unary_result, h x (by simp)], unary_bufs_sub .., rfl⟩

/-- An operation of two operands writes its result and reads them. -/
theorem desc_binary (a b y : Ref sig .tc) (f : a.ty.Contents Val → b.ty.Contents Val → y.ty.Contents Val) (ha hb hy) :
    Desc (binary (τ := τ) a b y f ha hb hy) y [a, b] :=
  ⟨rfl, fun V W h => by rw [binary_result, binary_result, h a (by simp), h b (by simp)], binary_bufs_sub .., rfl⟩

/-- An operation of three operands writes its result and reads them. -/
theorem desc_ternary (c a b y : Ref sig .tc)
    (f : c.ty.Contents Val → a.ty.Contents Val → b.ty.Contents Val → y.ty.Contents Val) (hc ha hb hy) :
    Desc (ternary (τ := τ) c a b y f hc ha hb hy) y [c, a, b] :=
  ⟨rfl, fun V W h => by
    rw [ternary_result, ternary_result, h c (by simp), h a (by simp), h b (by simp)], ternary_bufs_sub .., rfl⟩

/-- An operation of four operands writes its result and reads them. -/
theorem desc_quaternary (a b c e y : Ref sig .tc)
    (f : a.ty.Contents Val → b.ty.Contents Val → c.ty.Contents Val → e.ty.Contents Val → y.ty.Contents Val)
    (ha hb hc he hy) : Desc (quaternary (τ := τ) a b c e y f ha hb hc he hy) y [a, b, c, e] :=
  ⟨rfl, fun V W h => by
    rw [quaternary_result, quaternary_result, h a (by simp), h b (by simp), h c (by simp), h e (by simp)],
    quaternary_bufs_sub .., rfl⟩

/-- A reshape writes its result and reads its operand. -/
theorem desc_reshape (x y : Ref sig .tc) (he : x.ty.elt = y.ty.elt) (hn : x.ty.shape.ShapeCasts y.ty.shape) (hx hy) :
    Desc (reshape (τ := τ) (Val := Val) x y he hn hx hy) y [x] :=
  ⟨rfl, fun V W h => by rw [reshape_result, reshape_result, h x (by simp)], reshape_bufs_sub .., rfl⟩

/-- The operations of a line with their descriptions, one by one. -/
abbrev Descs (ops : List (HloOp τ sig Val)) (ds : List (Ref sig .tc × List (Ref sig .tc))) : Prop :=
  List.Forall₂ (fun op d => Desc op d.1 d.2) ops ds

/-- The empty line. -/
theorem Descs.nil : Descs (τ := τ) (sig := sig) (Val := Val) [] [] := List.Forall₂.nil

/-- A line with one more operation before it. -/
theorem Descs.cons {op : HloOp τ sig Val} {y : Ref sig .tc} {rs : List (Ref sig .tc)} {ops : List (HloOp τ sig Val)}
    {ds : List (Ref sig .tc × List (Ref sig .tc))} (h : Desc op y rs) (ht : Descs ops ds) :
    Descs (op :: ops) ((y, rs) :: ds) := List.Forall₂.cons h ht

/-- One line after another. -/
theorem Descs.append {ops ops' : List (HloOp τ sig Val)} {ds ds' : List (Ref sig .tc × List (Ref sig .tc))}
    (h : Descs ops ds) (h' : Descs ops' ds') : Descs (ops ++ ops') (ds ++ ds') := by
  induction h with
  | nil => exact h'
  | cons hd _ ih => exact .cons hd ih

/-- A reference's index in its table, which tells two of them apart. -/
def key (r : Ref sig .tc) : Nat := r.idx.val

/-- The order condition on indices: no operation reads or rewrites what it or an earlier … later one writes: an
    operation's result is not among its own operands, and no later operation writes its result or its operands. -/
def okKeys : List (Nat × List Nat) → Bool
  | [] => true
  | (y, rs) :: t => !rs.contains y && t.all (fun d => d.1 != y && !rs.contains d.1) && okKeys t

/-- The descriptions as indices. -/
def keys (ds : List (Ref sig .tc × List (Ref sig .tc))) : List (Nat × List Nat) :=
  ds.map fun d => (key d.1, d.2.map key)

/-- References of different keys name different buffers. -/
theorem devRef_ne {a b : Ref sig .tc} (h : key a ≠ key b) : (a : DevRef τ sig) ≠ (b : DevRef τ sig) := by
  intro he
  exact h (congrArg key (Proc.devRef_injective .tc he))

/-- A buffer that no operation of the line writes holds at the end what it held at the start. -/
theorem after_unwritten {ops : List (HloOp τ sig Val)} {ds : List (Ref sig .tc × List (Ref sig .tc))} (h : Descs ops ds)
    (V : Valuation τ sig Val) (r : Ref sig .tc) (hr : (keys ds).all (fun d => d.1 != key r) = true) :
    after ops V (r : DevRef τ sig) = V (r : DevRef τ sig) := by
  induction h generalizing V with
  | nil => rfl
  | @cons op d ops ds hd _ ih =>
    simp only [keys, List.map_cons, List.all_cons, Bool.and_eq_true, bne_iff_ne, ne_eq] at hr
    rw [after_cons, ih _ hr.2, HloOp.result_of_not_mem]
    rw [hd.writes, Finset.mem_singleton]
    exact devRef_ne fun he => hr.1 he.symm

/-- In the valuation `W` every operation's result is the operation's function of `W`. -/
def Sat (W : Valuation τ sig Val) (ops : List (HloOp τ sig Val)) : Prop :=
  ∀ op ∈ ops, ∀ b ∈ op.writes, W b = op.result W b

/-- What holds of a line holds of its first operation and of the rest. -/
theorem Sat.cons {W : Valuation τ sig Val} {op : HloOp τ sig Val} {ops : List (HloOp τ sig Val)} (h : Sat W (op :: ops)) :
    (∀ b ∈ op.writes, W b = op.result W b) ∧ Sat W ops :=
  ⟨h op (by simp), fun o ho => h o (by simp [ho])⟩

/-- What holds of two lines after one another holds of each. -/
theorem Sat.append {W : Valuation τ sig Val} {ops ops' : List (HloOp τ sig Val)} (h : Sat W (ops ++ ops')) :
    Sat W ops ∧ Sat W ops' :=
  ⟨fun o ho => h o (by simp [ho]), fun o ho => h o (by simp [ho])⟩

/-- After a line meeting the order condition, every operation's result is its function of the final contents. -/
theorem sat_after {ops : List (HloOp τ sig Val)} {ds : List (Ref sig .tc × List (Ref sig .tc))} (h : Descs ops ds)
    (hok : okKeys (keys ds) = true) (V : Valuation τ sig Val) : Sat (after ops V) ops := by
  induction h generalizing V with
  | nil => intro op ho; cases ho
  | @cons op d ops ds hd ht ih =>
    simp only [keys, List.map_cons, okKeys, Bool.and_eq_true, Bool.not_eq_true', List.all_eq_true, bne_iff_ne, ne_eq,
      List.contains_eq_mem, decide_eq_false_iff_not] at hok
    obtain ⟨⟨hself, hlater⟩, hok⟩ := hok
    rw [after_cons]
    intro o ho
    rcases List.mem_cons.mp ho with rfl | ho
    · intro b hb
      rw [hd.writes, Finset.mem_singleton] at hb
      subst hb
      rw [after_unwritten ht _ d.1 (by
        rw [List.all_eq_true]; intro x hx; rw [bne_iff_ne]; exact (hlater x hx).1)]
      refine hd.reads _ _ fun r hr => ?_
      have hkr : key r ∈ d.2.map key := List.mem_map_of_mem hr
      rw [after_unwritten ht _ r (by
        rw [List.all_eq_true]; intro x hx; rw [bne_iff_ne]; intro he
        exact (hlater x hx).2 (he ▸ hkr)), HloOp.result_of_not_mem]
      rw [hd.writes, Finset.mem_singleton]
      exact devRef_ne fun he => hself (he ▸ hkr)
    · exact ih hok _ o ho

/-- Every operation of a described line uses buffers of the core only. -/
theorem Descs.bufs {ops : List (HloOp τ sig Val)} {ds : List (Ref sig .tc × List (Ref sig .tc))} (h : Descs ops ds) :
    ops.Forall fun op => op.bufs ⊆ tcRefs τ sig := by
  rw [List.forall_iff_forall_mem]
  induction h with
  | nil => intro o ho; cases ho
  | cons hd _ ih =>
    intro o ho
    rcases List.mem_cons.mp ho with rfl | ho
    · exact hd.bufs
    · exact ih o ho

/-- No operation of a described line allocates a buffer. -/
theorem Descs.fresh {ops : List (HloOp τ sig Val)} {ds : List (Ref sig .tc × List (Ref sig .tc))} (h : Descs ops ds) :
    ∀ op ∈ ops, op.fresh = ∅ := by
  induction h with
  | nil => intro o ho; cases ho
  | cons hd _ ih =>
    intro o ho
    rcases List.mem_cons.mp ho with rfl | ho
    · exact hd.fresh
    · exact ih o ho

end Cert.Line
-- ==== Proof.RefOps.lean ====
/- The reference program as one straight line of host operations: the counter-based generator in rounds and key
   injections, the uniform and Gumbel noise around it, the arg max, and the program itself. -/
module

public import proofs.«01_k».proof.Defs
public import proofs.«01_k».proof.Proof.Line
public import proofs.«01_k».proof.Proof.Gen.ReferenceIdeal

@[expose] public section

namespace Cert.ReferenceIdeal.Ops

open Idealize.ShloMosaic Idealize.ShloMosaic.StableHlo Idealize.SL.Sem
open Facts₀ Facts
open Cert.Line

/-- A tensor's worth of words, as the generator names them. -/
abbrev Ar := StableHlo.TRef sig ⟨S8192x1000, .i32⟩

/-- One word, as the generator names it. -/
abbrev Wd := StableHlo.TRef sig ⟨S_, .i32⟩
variable {F : FTy → Type} [FloatOps F]

/-- One round of the generator: the sum, the rotation of the second word, their exclusive or. -/
noncomputable def roundOps (x0 x1 s : Ar) (cl : Wd) (bl sl : Ar) (cr : Wd) (br sr o y : Ar) (l r : BitVec 32) : List (HloOp τ sig (Elt F)) :=
  [StableHlo.TRef.binary x0 x1 s addi,
   StableHlo.TRef.nullary cl (constantI S_ 32 l),
   StableHlo.TRef.unary cl bl (broadcastInDim S8192x1000 ![] bcast_S_S8192x1000),
   StableHlo.TRef.binary x1 bl sl Host.shli,
   StableHlo.TRef.nullary cr (constantI S_ 32 r),
   StableHlo.TRef.unary cr br (broadcastInDim S8192x1000 ![] bcast_S_S8192x1000),
   StableHlo.TRef.binary x1 br sr Host.shrui,
   StableHlo.TRef.binary sl sr o ori,
   StableHlo.TRef.binary s o y xori]

/-- One key injection: a key word added to the first word, another and the injection's number to the second. -/
noncomputable def injectOps (x0 x1 : Ar) (ka kb : Wd) (ba y0 bb t : Ar) (c : Wd) (bc y1 : Ar) (n : BitVec 32) : List (HloOp τ sig (Elt F)) :=
  [StableHlo.TRef.unary ka ba (broadcastInDim S8192x1000 ![] bcast_S_S8192x1000),
   StableHlo.TRef.binary x0 ba y0 addi,
   StableHlo.TRef.unary kb bb (broadcastInDim S8192x1000 ![] bcast_S_S8192x1000),
   StableHlo.TRef.binary x1 bb t addi,
   StableHlo.TRef.nullary c (constantI S_ 32 n),
   StableHlo.TRef.unary c bc (broadcastInDim S8192x1000 ![] bcast_S_S8192x1000),
   StableHlo.TRef.binary t bc y1 addi]

/-- What the generator does before its rounds: the third key word, and the first two added to the counters. -/
noncomputable def startOps (arg0 arg1 : Wd) (arg2 arg3 : Ar) (φ : fn_threefry2x32.Bufs) : List (HloOp τ sig (Elt F)) :=
  [StableHlo.TRef.binary arg0 arg1 φ.v0 xori,
   StableHlo.TRef.nullary φ.c (constantI S_ 32 466688986#32),
   StableHlo.TRef.binary φ.v0 φ.c φ.v1 xori,
   StableHlo.TRef.unary arg0 φ.v2 (broadcastInDim S8192x1000 ![] bcast_S_S8192x1000),
   StableHlo.TRef.binary arg2 φ.v2 φ.v3 addi,
   StableHlo.TRef.unary arg1 φ.v4 (broadcastInDim S8192x1000 ![] bcast_S_S8192x1000),
   StableHlo.TRef.binary arg3 φ.v4 φ.v5 addi]

/-- Rounds 1 to 4 of the generator and the key injection after them. -/
noncomputable def group0Ops (arg0 arg1 : Wd) (φ : fn_threefry2x32.Bufs) : List (HloOp τ sig (Elt F)) :=
  roundOps φ.v3 φ.v5 φ.v6 φ.c_0 φ.v7 φ.v8 φ.c_1 φ.v9 φ.v10 φ.v11 φ.v12 13#32 19#32 ++
  (roundOps φ.v6 φ.v12 φ.v13 φ.c_2 φ.v14 φ.v15 φ.c_3 φ.v16 φ.v17 φ.v18 φ.v19 15#32 17#32 ++
  (roundOps φ.v13 φ.v19 φ.v20 φ.c_4 φ.v21 φ.v22 φ.c_5 φ.v23 φ.v24 φ.v25 φ.v26 26#32 6#32 ++
  (roundOps φ.v20 φ.v26 φ.v27 φ.c_6 φ.v28 φ.v29 φ.c_7 φ.v30 φ.v31 φ.v32 φ.v33 6#32 26#32 ++
  (injectOps φ.v27 φ.v33 arg1 φ.v1 φ.v34 φ.v35 φ.v36 φ.v37 φ.c_8 φ.v38 φ.v39 1#32))))

/-- Rounds 5 to 8 of the generator and the key injection after them. -/
noncomputable def group1Ops (arg0 arg1 : Wd) (φ : fn_threefry2x32.Bufs) : List (HloOp τ sig (Elt F)) :=
  roundOps φ.v35 φ.v39 φ.v40 φ.c_9 φ.v41 φ.v42 φ.c_10 φ.v43 φ.v44 φ.v45 φ.v46 17#32 15#32 ++
  (roundOps φ.v40 φ.v46 φ.v47 φ.c_11 φ.v48 φ.v49 φ.c_12 φ.v50 φ.v51 φ.v52 φ.v53 29#32 3#32 ++
  (roundOps φ.v47 φ.v53 φ.v54 φ.c_13 φ.v55 φ.v56 φ.c_14 φ.v57 φ.v58 φ.v59 φ.v60 16#32 16#32 ++
  (roundOps φ.v54 φ.v60 φ.v61 φ.c_15 φ.v62 φ.v63 φ.c_16 φ.v64 φ.v65 φ.v66 φ.v67 24#32 8#32 ++
  (injectOps φ.v61 φ.v67 φ.v1 arg0 φ.v68 φ.v69 φ.v70 φ.v71 φ.c_17 φ.v72 φ.v73 2#32))))

/-- Rounds 9 to 12 of the generator and the key injection after them. -/
noncomputable def group2Ops (arg0 arg1 : Wd) (φ : fn_threefry2x32.Bufs) : List (HloOp τ sig (Elt F)) :=
  roundOps φ.v69 φ.v73 φ.v74 φ.c_18 φ.v75 φ.v76 φ.c_19 φ.v77 φ.v78 φ.v79 φ.v80 13#32 19#32 ++
  (roundOps φ.v74 φ.v80 φ.v81 φ.c_20 φ.v82 φ.v83 φ.c_21 φ.v84 φ.v85 φ.v86 φ.v87 15#32 17#32 ++
  (roundOps φ.v81 φ.v87 φ.v88 φ.c_22 φ.v89 φ.v90 φ.c_23 φ.v91 φ.v92 φ.v93 φ.v94 26#32 6#32 ++
  (roundOps φ.v88 φ.v94 φ.v95 φ.c_24 φ.v96 φ.v97 φ.c_25 φ.v98 φ.v99 φ.v100 φ.v101 6#32 26#32 ++
  (injectOps φ.v95 φ.v101 arg0 arg1 φ.v102 φ.v103 φ.v104 φ.v105 φ.c_26 φ.v106 φ.v107 3#32))))

/-- Rounds 13 to 16 of the generator and the key injection after them. -/
noncomputable def group3Ops (arg0 arg1 : Wd) (φ : fn_threefry2x32.Bufs) : List (HloOp τ sig (Elt F)) :=
  roundOps φ.v103 φ.v107 φ.v108 φ.c_27 φ.v109 φ.v110 φ.c_28 φ.v111 φ.v112 φ.v113 φ.v114 17#32 15#32 ++
  (roundOps φ.v108 φ.v114 φ.v115 φ.c_29 φ.v116 φ.v117 φ.c_30 φ.v118 φ.v119 φ.v120 φ.v121 29#32 3#32 ++
  (roundOps φ.v115 φ.v121 φ.v122 φ.c_31 φ.v123 φ.v124 φ.c_32 φ.v125 φ.v126 φ.v127 φ.v128 16#32 16#32 ++
  (roundOps φ.v122 φ.v128 φ.v129 φ.c_33 φ.v130 φ.v131 φ.c_34 φ.v132 φ.v133 φ.v134 φ.v135 24#32 8#32 ++
  (injectOps φ.v129 φ.v135 arg1 φ.v1 φ.v136 φ.v137 φ.v138 φ.v139 φ.c_35 φ.v140 φ.v141 4#32))))

/-- Rounds 17 to 20 of the generator and the key injection after them. -/
noncomputable def group4Ops (arg0 arg1 : Wd) (φ : fn_threefry2x32.Bufs) : List (HloOp τ sig (Elt F)) :=
  roundOps φ.v137 φ.v141 φ.v142 φ.c_36 φ.v143 φ.v144 φ.c_37 φ.v145 φ.v146 φ.v147 φ.v148 13#32 19#32 ++
  (roundOps φ.v142 φ.v148 φ.v149 φ.c_38 φ.v150 φ.v151 φ.c_39 φ.v152 φ.v153 φ.v154 φ.v155 15#32 17#32 ++
  (roundOps φ.v149 φ.v155 φ.v156 φ.c_40 φ.v157 φ.v158 φ.c_41 φ.v159 φ.v160 φ.v161 φ.v162 26#32 6#32 ++
  (roundOps φ.v156 φ.v162 φ.v163 φ.c_42 φ.v164 φ.v165 φ.c_43 φ.v166 φ.v167 φ.v168 φ.v169 6#32 26#32 ++
  (injectOps φ.v163 φ.v169 φ.v1 arg0 φ.v170 φ.v171 φ.v172 φ.v173 φ.c_44 φ.v174 φ.v175 5#32))))

/-- The generator. -/
noncomputable def threefryOps (arg0 arg1 : Wd) (arg2 arg3 : Ar) (φ : fn_threefry2x32.Bufs) : List (HloOp τ sig (Elt F)) :=
  startOps arg0 arg1 arg2 arg3 φ ++ (group0Ops arg0 arg1 φ ++ (group1Ops arg0 arg1 φ ++ (group2Ops arg0 arg1 φ ++
    (group3Ops arg0 arg1 φ ++ group4Ops arg0 arg1 φ))))

/-- The counters and the key words of the noise, before the generator. -/
noncomputable def uniformPre (arg0 : StableHlo.TRef sig ⟨S2, .i32⟩) (arg1 arg2 : StableHlo.TRef sig ⟨S_, .f32⟩) (φ : fn_uniform.Bufs) : List (HloOp τ sig (Elt F)) :=
  [StableHlo.TRef.unary arg1 φ.v0 id,
   StableHlo.TRef.unary arg2 φ.v1 (broadcastInDim S1x1 ![] bcast_S_S1x1),
   StableHlo.TRef.unary φ.v0 φ.v2 (broadcastInDim S1x1 ![] bcast_S_S1x1),
   StableHlo.TRef.unary arg0 φ.v3 (extractStridedSlice S1 ![0] · slices_S2_S1_0),
   StableHlo.TRef.reshape φ.v3 φ.v4 (rfl : (.i32 : EltTy) = .i32) shapeCasts_S1_S_,
   StableHlo.TRef.unary arg0 φ.v5 (extractStridedSlice S1 ![1] · slices_S2_S1_1),
   StableHlo.TRef.reshape φ.v5 φ.v6 (rfl : (.i32 : EltTy) = .i32) shapeCasts_S1_S_,
   StableHlo.TRef.nullary φ.v7 (iotaInDim S8192x1000 64 0),
   StableHlo.TRef.nullary φ.v8 (iotaInDim S8192x1000 64 1),
   StableHlo.TRef.nullary φ.c (constantI S_ 64 1000#64),
   StableHlo.TRef.unary φ.c φ.v9 (broadcastInDim S8192x1000 ![] bcast_S_S8192x1000),
   StableHlo.TRef.binary φ.v9 φ.v7 φ.v10 muli,
   StableHlo.TRef.nullary φ.c_0 (constantI S_ 64 1#64),
   StableHlo.TRef.unary φ.c_0 φ.v11 (broadcastInDim S8192x1000 ![] bcast_S_S8192x1000),
   StableHlo.TRef.binary φ.v11 φ.v8 φ.v12 muli,
   StableHlo.TRef.binary φ.v10 φ.v12 φ.v13 addi,
   StableHlo.TRef.nullary φ.c_1 (constantI S_ 64 32#64),
   StableHlo.TRef.unary φ.c_1 φ.v14 (broadcastInDim S8192x1000 ![] bcast_S_S8192x1000),
   StableHlo.TRef.binary φ.v13 φ.v14 φ.v15 Host.shrui,
   StableHlo.TRef.unary φ.v13 φ.v16 (trunci 32 · natLt_32_64),
   StableHlo.TRef.unary φ.v15 φ.v17 (trunci 32 · natLt_32_64)]

/-- The uniform numbers made of the generator's words. -/
noncomputable def uniformPost (φ : fn_uniform.Bufs) : List (HloOp τ sig (Elt F)) :=
  [StableHlo.TRef.binary φ.call0.v171 φ.call0.v175 φ.v19 xori,
   StableHlo.TRef.nullary φ.c_2 (constantI S_ 32 9#32),
   StableHlo.TRef.unary φ.c_2 φ.v20 (broadcastInDim S8192x1000 ![] bcast_S_S8192x1000),
   StableHlo.TRef.binary φ.v19 φ.v20 φ.v21 Host.shrui,
   StableHlo.TRef.nullary φ.c_3 (constantI S_ 32 1065353216#32),
   StableHlo.TRef.unary φ.c_3 φ.v22 (broadcastInDim S8192x1000 ![] bcast_S_S8192x1000),
   StableHlo.TRef.binary φ.v21 φ.v22 φ.v23 ori,
   StableHlo.TRef.unary φ.v23 φ.v24 (bitcastToFloat .f32),
   StableHlo.TRef.nullary φ.cst (constant S_ .f32 0x3F800000#32),
   StableHlo.TRef.unary φ.cst φ.v25 (broadcastInDim S8192x1000 ![] bcast_S_S8192x1000),
   StableHlo.TRef.binary φ.v24 φ.v25 φ.v26 subf,
   StableHlo.TRef.binary φ.v2 φ.v1 φ.v27 subf,
   StableHlo.TRef.unary φ.v27 φ.v28 (broadcastInDim S8192x1000 ![0, 1] bcast_S1x1_S8192x1000_0_1),
   StableHlo.TRef.binary φ.v26 φ.v28 φ.v29 mulf,
   StableHlo.TRef.unary φ.v1 φ.v30 (broadcastInDim S8192x1000 ![0, 1] bcast_S1x1_S8192x1000_0_1),
   StableHlo.TRef.binary φ.v29 φ.v30 φ.v31 addf,
   StableHlo.TRef.unary φ.v1 φ.v32 (broadcastInDim S8192x1000 ![0, 1] bcast_S1x1_S8192x1000_0_1),
   StableHlo.TRef.binary φ.v32 φ.v31 φ.v33 maximumf]

/-- The two ends of the uniform numbers' interval. -/
noncomputable def gumbelPre (φ : fn_gumbel.Bufs) : List (HloOp τ sig (Elt F)) :=
  [StableHlo.TRef.nullary φ.cst (constant S_ .f32 0x3F800000#32),
   StableHlo.TRef.nullary φ.cst_0 (constant S_ .f32 0x00800000#32)]

/-- The Gumbel noise of the uniform numbers. -/
noncomputable def gumbelPost (φ : fn_gumbel.Bufs) : List (HloOp τ sig (Elt F)) :=
  [StableHlo.TRef.unary φ.call0.v33 φ.v1 Host.log,
   StableHlo.TRef.unary φ.v1 φ.v2 Host.negf,
   StableHlo.TRef.unary φ.v2 φ.v3 Host.log,
   StableHlo.TRef.unary φ.v3 φ.v4 Host.negf]

/-- The arg max over a row. -/
noncomputable def argmaxOps (arg0 : StableHlo.TRef sig ⟨S8192x1000, .f32⟩) (φ : fn_argmax.Bufs) : List (HloOp τ sig (Elt F)) :=
  [StableHlo.TRef.nullary φ.v0 (iotaInDim S8192x1000 32 1),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S8192x1000_S8192_d1 h_S_ j).1),
   StableHlo.TRef.quaternary arg0 φ.v0 φ.cst φ.c φ.v1_1 (fun x y u v j => (Host.argReduce reducer_argmax_f32_i32 x y u v reducesTo_S8192x1000_S8192_d1 h_S_ j).2)]

/-- The program before the noise: the row of the table for every token, its logarithm, the key. -/
noncomputable def mainPre : List (HloOp τ sig (Elt F)) :=
  [StableHlo.reshape main_arg0 main_v0 (rfl : (.i32 : EltTy) = .i32) shapeCasts_S1x8192_S8192,
   StableHlo.nullary main_c (constantI S_ 32 0#32),
   StableHlo.binary main_arg1 main_c main_v1 (cmpi .slt : (⟨S_, .i32⟩ : BufTy).Contents (Elt F) → (⟨S_, .i32⟩ : BufTy).Contents (Elt F) → (⟨S_, .i1⟩ : BufTy).Contents (Elt F)),
   StableHlo.nullary main_c_0 (constantI S_ 32 32#32),
   StableHlo.binary main_arg1 main_c_0 main_v2 (addi : (⟨S_, .i32⟩ : BufTy).Contents (Elt F) → (⟨S_, .i32⟩ : BufTy).Contents (Elt F) → (⟨S_, .i32⟩ : BufTy).Contents (Elt F)),
   StableHlo.ternary main_v1 main_v2 main_arg1 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.nullary main_c_1 (constantI S_ 32 0#32),
   StableHlo.unary main_c_1 main_v4 (broadcastInDim S8192 ![] bcast_S_S8192 : (⟨S_, .i32⟩ : BufTy).Contents (Elt F) → (⟨S8192, .i32⟩ : BufTy).Contents (Elt F)),
   StableHlo.binary main_v0 main_v4 main_v5 (cmpi .slt : (⟨S8192, .i32⟩ : BufTy).Contents (Elt F) → (⟨S8192, .i32⟩ : BufTy).Contents (Elt F) → (⟨S8192, .i1⟩ : BufTy).Contents (Elt F)),
   StableHlo.nullary main_c_2 (constantI S_ 32 1000#32),
   StableHlo.unary main_c_2 main_v6 (broadcastInDim S8192 ![] bcast_S_S8192 : (⟨S_, .i32⟩ : BufTy).Contents (Elt F) → (⟨S8192, .i32⟩ : BufTy).Contents (Elt F)),
   StableHlo.binary main_v0 main_v6 main_v7 (addi : (⟨S8192, .i32⟩ : BufTy).Contents (Elt F) → (⟨S8192, .i32⟩ : BufTy).Contents (Elt F) → (⟨S8192, .i32⟩ : BufTy).Contents (Elt F)),
   StableHlo.ternary main_v5 main_v7 main_v0 main_v8 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   StableHlo.unary main_v3 main_v9 (broadcastInDim S8192 ![] bcast_S_S8192 : (⟨S_, .i32⟩ : BufTy).Contents (Elt F) → (⟨S8192, .i32⟩ : BufTy).Contents (Elt F)),
   StableHlo.unary main_v9 main_v10 (broadcastInDim S8192x1 ![0] bcast_S8192_S8192x1_0 : (⟨S8192, .i32⟩ : BufTy).Contents (Elt F) → (⟨S8192x1, .i32⟩ : BufTy).Contents (Elt F)),
   StableHlo.unary main_v8 main_v11 (broadcastInDim S8192x1 ![0] bcast_S8192_S8192x1_0 : (⟨S8192, .i32⟩ : BufTy).Contents (Elt F) → (⟨S8192x1, .i32⟩ : BufTy).Contents (Elt F)),
   StableHlo.binary main_v10 main_v11 main_v12 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
   StableHlo.binary main_arg2 main_v12 main_v13 ((fun x i => Host.gather gather_S32x1000x1000_S8192x2_S8192x1000_1_01_n_n_01_1_111000 x i) : (⟨S32x1000x1000, .f32⟩ : BufTy).Contents (Elt F) → (⟨S8192x2, .i32⟩ : BufTy).Contents (Elt F) → (⟨S8192x1000, .f32⟩ : BufTy).Contents (Elt F)),
   StableHlo.nullary main_cst (constant S_ .f32 0x0DA24260#32),
   StableHlo.unary main_cst main_v14 (broadcastInDim S8192x1000 ![] bcast_S_S8192x1000 : (⟨S_, .f32⟩ : BufTy).Contents (Elt F) → (⟨S8192x1000, .f32⟩ : BufTy).Contents (Elt F)),
   StableHlo.binary main_v13 main_v14 main_v15 (addf : (⟨S8192x1000, .f32⟩ : BufTy).Contents (Elt F) → (⟨S8192x1000, .f32⟩ : BufTy).Contents (Elt F) → (⟨S8192x1000, .f32⟩ : BufTy).Contents (Elt F)),
   StableHlo.unary main_v15 main_v16 (Host.log : (⟨S8192x1000, .f32⟩ : BufTy).Contents (Elt F) → (⟨S8192x1000, .f32⟩ : BufTy).Contents (Elt F)),
   StableHlo.nullary main_c_3 (constantI S_ 32 42#32),
   StableHlo.nullary main_c_4 (constantI S_ 32 32#32),
   StableHlo.binary main_c_3 main_c_4 main_v17 (Host.shrui : (⟨S_, .i32⟩ : BufTy).Contents (Elt F) → (⟨S_, .i32⟩ : BufTy).Contents (Elt F) → (⟨S_, .i32⟩ : BufTy).Contents (Elt F)),
   StableHlo.unary main_v17 main_v18 (id : (⟨S_, .i32⟩ : BufTy).Contents (Elt F) → (⟨S_, .i32⟩ : BufTy).Contents (Elt F)),
   StableHlo.unary main_v18 main_v19 (broadcastInDim S1 ![] bcast_S_S1 : (⟨S_, .i32⟩ : BufTy).Contents (Elt F) → (⟨S1, .i32⟩ : BufTy).Contents (Elt F)),
   StableHlo.nullary main_c_5 (constantI S_ 32 4294967295#32),
   StableHlo.binary main_c_3 main_c_5 main_v20 (andi : (⟨S_, .i32⟩ : BufTy).Contents (Elt F) → (⟨S_, .i32⟩ : BufTy).Contents (Elt F) → (⟨S_, .i32⟩ : BufTy).Contents (Elt F)),
   StableHlo.unary main_v20 main_v21 (id : (⟨S_, .i32⟩ : BufTy).Contents (Elt F) → (⟨S_, .i32⟩ : BufTy).Contents (Elt F)),
   StableHlo.unary main_v21 main_v22 (broadcastInDim S1 ![] bcast_S_S1 : (⟨S_, .i32⟩ : BufTy).Contents (Elt F) → (⟨S1, .i32⟩ : BufTy).Contents (Elt F)),
   StableHlo.binary main_v19 main_v22 main_v23 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]

/-- The logits with noise. -/
noncomputable def mainMid : List (HloOp τ sig (Elt F)) :=
  [StableHlo.binary main_v24 main_v16 main_v25 (addf : (⟨S8192x1000, .f32⟩ : BufTy).Contents (Elt F) → (⟨S8192x1000, .f32⟩ : BufTy).Contents (Elt F) → (⟨S8192x1000, .f32⟩ : BufTy).Contents (Elt F))]

/-- The result's shape. -/
noncomputable def mainPost : List (HloOp τ sig (Elt F)) :=
  [StableHlo.unary main_v26 main_v27 (broadcastInDim S1x8192 ![1] bcast_S8192_S1x8192_1 : (⟨S8192, .i32⟩ : BufTy).Contents (Elt F) → (⟨S1x8192, .i32⟩ : BufTy).Contents (Elt F))]

/-- The noise. -/
noncomputable def noiseOps : List (HloOp τ sig (Elt F)) :=
  gumbelPre main_call0 ++ (uniformPre (.of main_v23) main_call0.cst main_call0.cst_0 main_call0.call0 ++
    (threefryOps main_call0.call0.v4 main_call0.call0.v6 main_call0.call0.v17 main_call0.call0.v16 main_call0.call0.call0 ++
      (uniformPost main_call0.call0 ++ gumbelPost main_call0)))

/-- The whole program. -/
noncomputable def mainOps : List (HloOp τ sig (Elt F)) :=
  mainPre ++ (noiseOps ++ (mainMid ++ (argmaxOps (.of main_v25) main_call1 ++ mainPost)))

end Cert.ReferenceIdeal.Ops
-- ==== Proof.RefRun.lean ====
/- The reference program runs: it is the straight line of `Ops.mainOps`, so it ends with every buffer at the line's
   contents, and the line satisfies every one of its operations' equations. -/
module

public import proofs.«01_k».proof.Proof.RefOps

@[expose] public section

namespace Cert.ReferenceIdeal.Ops

open Idealize.ShloMosaic Idealize.ShloMosaic.StableHlo Idealize.SL.Sem
open Facts₀ Facts
open Cert.Line

/-- The programs of this machine. -/
abbrev HostProg (F : FTy → Type) [FloatOps F] :=
  Prog (TpuEff nD τ sig (Elt F) (Pipeline.Sig Λ₀ (Fin 0) fun p => (pcfgs (F := F) p).Adm) .tc) PUnit

variable {F : FTy → Type} [FloatOps F]

/-- Two straight lines in sequence. -/
theorem isSeq_bind {p q : HostProg F} {l l' : List (HloOp τ sig (Elt F))} (hp : IsSeq p l) (hq : IsSeq q l') :
    IsSeq (p >>= fun _ => q) (l ++ l') := by
  unfold IsSeq at hp hq ⊢
  rw [seq_append, hp, hq]

/-- A last operation. -/
theorem isSeq_last (op : HloOp τ sig (Elt F)) :
    IsSeq (Λ := Pipeline.Sig Λ₀ (Fin 0) fun p => (pcfgs (F := F) p).Adm) (nD := nD) (hlo rfl op fun _ => .ret (⟨⟩ : PUnit)) [op] := rfl

set_option maxHeartbeats 4000000 in
/-- The generator is the line `threefryOps`. -/
theorem threefry_seq (arg0 arg1 : Wd) (arg2 arg3 : Ar) (φ : fn_threefry2x32.Bufs) :
    IsSeq (fn_threefry2x32.body (F := F) arg0 arg1 arg2 arg3 φ) (threefryOps arg0 arg1 arg2 arg3 φ) := by
  have h : ∃ l, IsSeq (fn_threefry2x32.body (F := F) arg0 arg1 arg2 arg3 φ) l ∧ threefryOps arg0 arg1 arg2 arg3 φ = l := by
    unfold fn_threefry2x32.body
    apply Exists.intro
    apply And.intro
    · apply isSeq_bind
      · unfold fn_threefry2x32.body_part0
        repeat (first | exact IsSeq.nil | exact isSeq_last _ | apply IsSeq.cons)
      apply isSeq_bind
      · unfold fn_threefry2x32.body_part1
        repeat (first | exact IsSeq.nil | exact isSeq_last _ | apply IsSeq.cons)
      apply isSeq_bind
      · unfold fn_threefry2x32.body_part2
        repeat (first | exact IsSeq.nil | exact isSeq_last _ | apply IsSeq.cons)
      · unfold fn_threefry2x32.body_part3
        repeat (first | exact IsSeq.nil | exact isSeq_last _ | apply IsSeq.cons)
    · rfl
  obtain ⟨l, hl, h⟩ := h
  rw [h]
  exact hl

/-- The uniform numbers are the line of their operations around the generator's. -/
theorem uniform_seq (arg0 : StableHlo.TRef sig ⟨S2, .i32⟩) (arg1 arg2 : StableHlo.TRef sig ⟨S_, .f32⟩) (φ : fn_uniform.Bufs) :
    IsSeq (fn_uniform.body (F := F) arg0 arg1 arg2 φ)
      (uniformPre arg0 arg1 arg2 φ ++ (threefryOps φ.v4 φ.v6 φ.v17 φ.v16 φ.call0 ++ uniformPost φ)) := by
  unfold fn_uniform.body uniformPre
  simp only [List.cons_append, List.nil_append]
  iterate 21 apply IsSeq.cons
  refine isSeq_bind (threefry_seq (F := F) ..) ?_
  unfold uniformPost
  repeat (first | exact IsSeq.nil | apply IsSeq.cons)

/-- The noise is the line of its operations around the uniform numbers'. -/
theorem gumbel_seq (arg0 : StableHlo.TRef sig ⟨S2, .i32⟩) (φ : fn_gumbel.Bufs) :
    IsSeq (fn_gumbel.body (F := F) arg0 φ)
      (gumbelPre φ ++ ((uniformPre arg0 φ.cst φ.cst_0 φ.call0 ++
        (threefryOps φ.call0.v4 φ.call0.v6 φ.call0.v17 φ.call0.v16 φ.call0.call0 ++ uniformPost φ.call0)) ++ gumbelPost φ)) := by
  unfold fn_gumbel.body gumbelPre
  simp only [List.cons_append, List.nil_append]
  apply IsSeq.cons
  apply IsSeq.cons
  refine isSeq_bind (uniform_seq (F := F) ..) ?_
  unfold gumbelPost
  repeat (first | exact IsSeq.nil | apply IsSeq.cons)

/-- The arg max is the line `argmaxOps`. -/
theorem argmax_seq (arg0 : StableHlo.TRef sig ⟨S8192x1000, .f32⟩) (φ : fn_argmax.Bufs) :
    IsSeq (fn_argmax.body (F := F) arg0 φ) (argmaxOps arg0 φ) := by
  unfold fn_argmax.body argmaxOps
  repeat (first | exact IsSeq.nil | apply IsSeq.cons)

/-- The program is the line `mainOps`. -/
theorem main_seq (d : Dev nD) : IsSeq (main (F := F) d) mainOps := by
  unfold main mainOps mainPre
  simp only [List.cons_append, List.nil_append]
  iterate 32 apply IsSeq.cons
  refine isSeq_bind (F := F) (q := _) (l := noiseOps) ?_ ?_
  · have := gumbel_seq (F := F) (.of main_v23) main_call0
    simp only [List.append_assoc] at this
    exact this
  unfold mainMid mainPost
  simp only [List.cons_append, List.nil_append]
  apply IsSeq.cons
  refine isSeq_bind (argmax_seq (F := F) ..) ?_
  repeat (first | exact IsSeq.nil | apply IsSeq.cons)

end Cert.ReferenceIdeal.Ops
-- ==== Proof.RefLine.lean ====
/- The reference's line of operations writes every buffer once and before it is read, so the reference ends with every
   operation's result at its function of the final contents, its arguments unchanged and no counter left. -/
module

public import proofs.«01_k».proof.Proof.RefRun

@[expose] public section

namespace Cert.ReferenceIdeal.Ops

open Idealize.ShloMosaic Idealize.ShloMosaic.StableHlo Idealize.SL.Sem
open Facts₀ Facts
open Cert.Line

variable {F : FTy → Type} [FloatOps F]

set_option maxHeartbeats 4000000 in
/-- The line's operations described by what they write and read, and the order condition checked. -/
theorem main_descs : ∃ ds, Descs (mainOps (F := F)) ds ∧ okKeys (keys ds) = true ∧
    (keys ds).all (fun d => d.1 != key main_arg0) = true ∧ (keys ds).all (fun d => d.1 != key main_arg1) = true ∧
    (keys ds).all (fun d => d.1 != key main_arg2) = true := by
  apply Exists.intro
  apply And.intro
  · unfold mainOps noiseOps threefryOps group0Ops group1Ops group2Ops group3Ops group4Ops startOps mainPre mainMid mainPost
      gumbelPre gumbelPost uniformPre uniformPost argmaxOps roundOps injectOps
    simp only [List.cons_append, List.nil_append]
    repeat (first
      | exact Descs.nil
      | apply Descs.cons (desc_nullary _ _ _)
      | apply Descs.cons (desc_unary _ _ _ _ _)
      | apply Descs.cons (desc_binary _ _ _ _ _ _ _)
      | apply Descs.cons (desc_ternary _ _ _ _ _ _ _ _ _)
      | apply Descs.cons (desc_quaternary _ _ _ _ _ _ _ _ _ _ _)
      | apply Descs.cons (desc_reshape _ _ _ _ _ _))
  refine ⟨?_, ?_, ?_, ?_⟩ <;> decide +kernel

/-- The machine the reference runs on has no semaphore. -/
theorem no_sem (s : MemSt nD τ sig (Elt F)) : s.sem = fun _ => 0 := by
  have hc : IsEmpty (SemLoc sig) := Fintype.card_eq_zero_iff.mp SemLoc.card_eq
  funext g
  exact hc.elim g.2

/-- The reference runs. At the end its arguments are unchanged, every counter is zero, and the contents satisfy every
    operation of its line. -/
theorem run_main (m : (ℓ : Loc nD τ sig) → Buf (Elt F) ℓ) (g : Dev nD → PrngReg) :
    θ_run (defs (F := F)) (onTc (τ := τ) (main (F := F))) ⟨m, fun _ => 0, g⟩ (fun r =>
      (∀ c : Dev nD, ∃ W : Valuation τ sig (Elt F), Sat W mainOps ∧
        (∀ b : Ref sig .tc, r.2.mem ((c.tc : Thread nD τ).loc b) = W (Proc.devRef .tc b)) ∧
        W (Proc.devRef .tc main_arg0) = m ((c.tc : Thread nD τ).loc main_arg0) ∧
        W (Proc.devRef .tc main_arg1) = m ((c.tc : Thread nD τ).loc main_arg1) ∧
        W (Proc.devRef .tc main_arg2) = m ((c.tc : Thread nD τ).loc main_arg2))
      ∧ r.2.sem = fun _ => 0) := by
  obtain ⟨ds, hd, hok, h0, h1, h2⟩ := main_descs (F := F)
  refine θ_run_mono (run_hlo _ _ main_seq (by decide) (by decide) hd.bufs hd.fresh m g) fun r hr => ⟨fun c => ?_, no_sem _⟩
  exact ⟨after mainOps (launchContents m c), sat_after hd hok _, hr c, after_unwritten hd _ _ h0, after_unwritten hd _ _ h1,
    after_unwritten hd _ _ h2⟩

end Cert.ReferenceIdeal.Ops
-- ==== Proof.Frames.lean ====
/- The programs run, end with their arguments unchanged and leave no counter set; and the named constant is what its rule
   says. -/
module

public import proofs.«01_k».proof.Defs
public import proofs.«01_k».proof.Proof.Gen.Kernel.Frame
public import proofs.«01_k».proof.Proof.Gen.KernelIdeal.Frame
public import proofs.«01_k».proof.Proof.RefLine

@[expose] public section

namespace Cert.Proof

open Idealize.ShloMosaic Idealize.SL.Sem

/-- The kernel runs on bits. -/
theorem kernel_quiescent : quiescent_Kernel (hKernel := Cert.Kernel.Gen.facts) := fun m g _ => Cert.Kernel.Gen.frame m g

/-- The idealized kernel runs on extended reals. -/
theorem kernelIdeal_quiescent : quiescent_KernelIdeal (hKernelIdeal := Cert.KernelIdeal.Gen.facts) :=
  fun m g _ => Cert.KernelIdeal.Gen.frame m g

/-- The reference runs on extended reals. -/
theorem reference_quiescent : quiescent_ReferenceIdeal (hReferenceIdeal := Cert.ReferenceIdeal.Gen.facts) :=
  fun m g _ => θ_run_mono (Cert.ReferenceIdeal.Ops.run_main m g) fun r hr => by
    refine ⟨fun c => ?_, hr.2⟩
    obtain ⟨W, -, hW, h0, h1, h2⟩ := hr.1 c
    exact ⟨(hW _).trans h0, (hW _).trans h1, (hW _).trans h2⟩

/-- The constant standing for minus infinity is named as its rule says. -/
theorem mask_named : preserves_Kernel_KernelIdeal :=
  IdealRules.named_const.statement Cert.KernelIdeal.κ "mask" .f32 0xFF61B1E6#32 ⊥ rfl

end Cert.Proof
-- ==== Proof.Words.lean ====
/- The counter-based generator on 32-bit words: rotations, rounds, key injections, and the word it gives for a counter;
   then the Gumbel noise made of a word, as both programs compute it on extended reals. -/
module

public import proofs.«01_k».proof.Defs

@[expose] public section

namespace Cert.Words

open Idealize.ShloMosaic

/-- A word. -/
abbrev W := BitVec 32

/-- The word `x` rotated left by `l`, as the programs spell it with the complementary amount `r`. -/
def rot (l r x : W) : W := (x <<< l) ||| (x >>> r)

/-- One round on a pair of words. -/
def rnd (l r : W) (p : W × W) : W × W := (p.1 + p.2, (p.1 + p.2) ^^^ rot l r p.2)

/-- A key injection: `ka` into the first word, `kb` and the number `n` into the second. -/
def inj (ka kb n : W) (p : W × W) : W × W := (p.1 + ka, p.2 + kb + n)

/-- The four rounds of the first kind. -/
def mixA (p : W × W) : W × W := rnd 6#32 26#32 (rnd 26#32 6#32 (rnd 15#32 17#32 (rnd 13#32 19#32 p)))

/-- The four rounds of the second kind. -/
def mixB (p : W × W) : W × W := rnd 24#32 8#32 (rnd 16#32 16#32 (rnd 29#32 3#32 (rnd 17#32 15#32 p)))

/-- The generator at the key `k0 k1` with third key word `k2`. -/
def threefry (k0 k1 k2 : W) (p : W × W) : W × W :=
  inj k2 k0 5#32 (mixA (inj k1 k2 4#32 (mixB (inj k0 k1 3#32 (mixA (inj k2 k0 2#32 (mixB (inj k1 k2 1#32
    (mixA (p.1 + k0, p.2 + k1))))))))))

/-- The third key word of the key `0 42`. -/
def k2 : W := (0#32 ^^^ 42#32) ^^^ 466688986#32

/-- The random word of the counter `n`. -/
def word (n : W) : W :=
  (threefry 0#32 42#32 k2 (0#32, n)).1 ^^^ (threefry 0#32 42#32 k2 (0#32, n)).2

/-- A left shift by an amount below the width, on either unit. -/
theorem shli_lt (u : ArithUnit) (x y : W) (h : y.toNat < 32) : IntOp.shli u x y = x <<< y := by
  unfold IntOp.shli; rw [if_pos h]

/-- A right shift by an amount below the width, on either unit. -/
theorem shrui_lt {w : Nat} (u : ArithUnit) (x y : BitVec w) (h : y.toNat < w) : IntOp.shrui u x y = x >>> y := by
  unfold IntOp.shrui; rw [if_pos h]

/-- The least normal number, the lower end of the uniform numbers. -/
noncomputable def tiny : EReal := Ideal.ofBits .f32 0x00800000#32

/-- The number one. -/
noncomputable def one : EReal := Ideal.ofBits .f32 0x3F800000#32

/-- The uniform number of a random word. -/
noncomputable def unif (w : W) : EReal :=
  max tiny ((Ideal.ofBits .f32 ((w >>> 9#32) ||| 1065353216#32) - one) * (one - tiny) + tiny)

/-- The Gumbel noise of a random word. -/
noncomputable def gum (w : W) : EReal := -(Ideal.log (-(Ideal.log (unif w))))

end Cert.Words
-- ==== Proof.KBits.lean ====
/- What the kernel's generator computes, element by element: the word each element's payloads end with is the generator's on
   the element's counter, and the noise made of it. -/
module

public import proofs.«01_k».proof.Proof.Gen.KernelIdeal.Skeleton
public import proofs.«01_k».proof.Proof.Words
public import Idealize.ShloMosaic.Lib.Pointwise

@[expose] public section

namespace Cert.KernelIdeal.Gen

open Idealize.ShloMosaic
open Cert.Words

/-- A round on vectors, read at an element. -/
theorem round_eq {a : BitVec 32} {b s y : IVec S256x1024 32} {l r : BitVec 32} {i : S256x1024.Idx} (hs : s i = a + b i)
    (hy : y i = IntOp.xori (IntOp.ori (IntOp.shli .vector (b i) l) (IntOp.shrui .vector (b i) r)) (s i))
    (hl : l.toNat < 32) (hr : r.toNat < 32) : rnd l r (a, b i) = (s i, y i) := by
  rw [hy, shli_lt _ _ _ hl, shrui_lt _ _ _ hr, hs]
  exact Prod.ext rfl (BitVec.xor_comm _ _)

/-- The word's or, spelled as the operation. -/
theorem ori_eq (x y : BitVec 32) : IntOp.ori x y = x ||| y := rfl

/-- The uniform number of a word and the inner logarithm, read at an element. -/
theorem unif_vec (w : IVec S256x1024 32) (i : S256x1024.Idx) :
    subf (F := Ideal) (broadcast S256x1024 (Scalar.ofBits .f32 0#32)) (log (maximumf
      (broadcast S256x1024 (Scalar.ofBits FTy.f32 8388608#32)) (addf (mulf (subf (bitcastToFloat FTy.f32
        (ori (shrui w (broadcast S256x1024 9#32)) (broadcast S256x1024 1065353216#32)))
        (broadcast S256x1024 (Scalar.ofBits FTy.f32 1065353216#32)))
        (broadcast S256x1024 (Scalar.subf (Scalar.ofBits FTy.f32 1065353216#32) (Scalar.ofBits FTy.f32 8388608#32))))
        (broadcast S256x1024 (Scalar.ofBits FTy.f32 8388608#32))))) i = 0 - Ideal.log (unif (w i)) := by
  unfold unif tiny one
  rw [← shrui_lt .vector _ 9#32 (by decide), ← ori_eq]
  pointwise

/-- The second round. -/
theorem r15 (v31 v33 v35 : IVec S256x1024 32) (i : S256x1024.Idx) :
    rnd 15#32 17#32 (v31 i, k0_pay14 v31 v33 v35 i) = (k0_pay15 v31 v33 v35 i, k0_pay16 v31 v33 v35 i) :=
  round_eq rfl rfl (by decide) (by decide)

/-- The third round. -/
theorem r26 (v31 v33 v35 : IVec S256x1024 32) (i : S256x1024.Idx) :
    rnd 26#32 6#32 (k0_pay15 v31 v33 v35 i, k0_pay16 v31 v33 v35 i) = (k0_pay17 v31 v33 v35 i, k0_pay18 v31 v33 v35 i) :=
  round_eq rfl rfl (by decide) (by decide)

/-- The fifth round. -/
theorem r17 (v27 : BitVec 32) (v31 v33 v35 : IVec S256x1024 32) (i : S256x1024.Idx) :
    rnd 17#32 15#32 (k0_pay19 v31 v33 v35 i + 42#32, k0_pay20 v27 v31 v33 v35 i) = (k0_pay21 v27 v31 v33 v35 i, k0_pay22 v27 v31 v33 v35 i) :=
  round_eq rfl rfl (by decide) (by decide)

/-- The sixth round. -/
theorem r29 (v27 : BitVec 32) (v31 v33 v35 : IVec S256x1024 32) (i : S256x1024.Idx) :
    rnd 29#32 3#32 (k0_pay21 v27 v31 v33 v35 i, k0_pay22 v27 v31 v33 v35 i) = (k0_pay23 v27 v31 v33 v35 i, k0_pay24 v27 v31 v33 v35 i) :=
  round_eq rfl rfl (by decide) (by decide)

/-- The ninth round. -/
theorem r13' (v27 : BitVec 32) (v78 v79 v81 : IVec S256x1024 32) (i : S256x1024.Idx) :
    rnd 13#32 19#32 (k0_pay28 v78 v79 v81 16#32 i + v27, k0_pay29 v78 v79 v81 16#32 i) = (k0_pay30 v27 v78 v79 v81 16#32 i, k0_pay31 v27 v78 v79 v81 16#32 i) :=
  round_eq rfl rfl (by decide) (by decide)

/-- The tenth round. -/
theorem r15' (v27 : BitVec 32) (v78 v79 v81 : IVec S256x1024 32) (i : S256x1024.Idx) :
    rnd 15#32 17#32 (k0_pay30 v27 v78 v79 v81 16#32 i, k0_pay31 v27 v78 v79 v81 16#32 i) = (k0_pay32 v27 v78 v79 v81 16#32 i, k0_pay33 v27 v78 v79 v81 16#32 i) :=
  round_eq rfl rfl (by decide) (by decide)

/-- The eleventh round. -/
theorem r26' (v27 : BitVec 32) (v78 v79 v81 : IVec S256x1024 32) (i : S256x1024.Idx) :
    rnd 26#32 6#32 (k0_pay32 v27 v78 v79 v81 16#32 i, k0_pay33 v27 v78 v79 v81 16#32 i) = (k0_pay34 v27 v78 v79 v81 16#32 i, k0_pay35 v27 v78 v79 v81 16#32 i) :=
  round_eq rfl rfl (by decide) (by decide)

/-- The twelfth round. -/
theorem r6' (v27 : BitVec 32) (v78 v79 v81 : IVec S256x1024 32) (i : S256x1024.Idx) :
    rnd 6#32 26#32 (k0_pay34 v27 v78 v79 v81 16#32 i, k0_pay35 v27 v78 v79 v81 16#32 i) = (k0_pay36 v27 v78 v79 v81 16#32 i, k0_pay37 v27 v78 v79 v81 16#32 i) :=
  round_eq rfl rfl (by decide) (by decide)

/-- The thirteenth round. -/
theorem r17' (v126 v128 : IVec S256x1024 32) (i : S256x1024.Idx) :
    rnd 17#32 15#32 (v128 i, k0_pay39 v126 i) = (k0_pay40 v126 v128 i, k0_pay41 v126 v128 i) :=
  round_eq rfl rfl (by decide) (by decide)

/-- The fourteenth round. -/
theorem r29' (v126 v128 : IVec S256x1024 32) (i : S256x1024.Idx) :
    rnd 29#32 3#32 (k0_pay40 v126 v128 i, k0_pay41 v126 v128 i) = (k0_pay42 v126 v128 i, k0_pay43 v126 v128 i) :=
  round_eq rfl rfl (by decide) (by decide)

/-- The fifteenth round. -/
theorem r16' (v126 v128 : IVec S256x1024 32) (i : S256x1024.Idx) :
    rnd 16#32 16#32 (k0_pay42 v126 v128 i, k0_pay43 v126 v128 i) = (k0_pay44 v126 v128 i, k0_pay45 v126 v128 i) :=
  round_eq rfl rfl (by decide) (by decide)

/-- The seventeenth round. -/
theorem r13'' (v27 : BitVec 32) (v126 v128 : IVec S256x1024 32) (i : S256x1024.Idx) :
    rnd 13#32 19#32 (k0_pay46 v126 v128 i + 42#32, k0_pay47 v27 v126 v128 i) = (k0_pay48 v27 v126 v128 i, k0_pay49 v27 v126 v128 i) :=
  round_eq rfl rfl (by decide) (by decide)

/-- The counter of the element in row `j 0` and column `j 1` of the point `I`. -/
def counter (I : grid0.Coords) (j : S256x1024.Idx) : BitVec 32 :=
  (BitVec.ofNat 32 (I 0).val * 256#32 + BitVec.ofNat 32 (j 0).val) * 1000#32 + BitVec.ofNat 32 (j 1).val

/-- The second word of the generator at the start: the counter with the second key word added. -/
theorem pay10_eq (I : grid0.Coords) (j : S256x1024.Idx) : k0_pay10 I j = counter I j + 42#32 := by
  have h0 : iota .tc S256x1024 32 [0] iota_S256x1024_d0_w32 j = BitVec.ofNat 32 (j 0).val := by
    simp [iota]
  have h1 : iota .tc S256x1024 32 [1] iota_S256x1024_d1_w32 j = BitVec.ofNat 32 (j 1).val := by
    simp [iota]
  unfold counter
  rw [← h0, ← h1]
  rfl

/-- The first round. -/
theorem r13 (I : grid0.Coords) (i : S256x1024.Idx) :
    rnd 13#32 19#32 (0#32, k0_pay10 I i) = (k0_pay11 I i, k0_pay14 (k0_pay11 I) (k0_pay12 I) (k0_pay13 I) i) :=
  round_eq (s := k0_pay11 I) (y := k0_pay14 (k0_pay11 I) (k0_pay12 I) (k0_pay13 I)) rfl rfl (by decide) (by decide)

/-- The first key injection, after the first four rounds. -/
theorem inj1 (v31 v33 v35 : IVec S256x1024 32) (i : S256x1024.Idx) :
    inj 42#32 k2 1#32 (rnd 6#32 26#32 (k0_pay17 v31 v33 v35 i, k0_pay18 v31 v33 v35 i))
      = (k0_pay19 v31 v33 v35 i + 42#32, k0_pay20 k2 v31 v33 v35 i) := by
  rw [round_eq (s := k0_pay19 v31 v33 v35) (y := fun i => IntOp.xori (IntOp.ori (IntOp.shli .vector (k0_pay18 v31 v33 v35 i) 6#32)
    (IntOp.shrui .vector (k0_pay18 v31 v33 v35 i) 26#32)) (k0_pay19 v31 v33 v35 i)) rfl rfl (by decide) (by decide)]
  rfl

/-- The round that the kernel's second and third stretch share. -/
theorem r16 (v27 : BitVec 32) (v31 v33 v35 : IVec S256x1024 32) (i : S256x1024.Idx) :
    rnd 16#32 16#32 (k0_pay23 v27 v31 v33 v35 i, k0_pay24 v27 v31 v33 v35 i)
      = (k0_pay25 v27 v31 v33 v35 i,
        k0_pay27 (k0_pay24 v27 v31 v33 v35) (k0_pay25 v27 v31 v33 v35) (k0_pay26 v27 v31 v33 v35) 16#32 i) :=
  round_eq rfl rfl (by decide) (by decide)

/-- The second key injection. -/
theorem inj2 (v78 v79 v81 : IVec S256x1024 32) (i : S256x1024.Idx) :
    inj k2 0#32 2#32 (rnd 24#32 8#32 (v79 i, k0_pay27 v78 v79 v81 16#32 i))
      = (k0_pay28 v78 v79 v81 16#32 i + k2, k0_pay29 v78 v79 v81 16#32 i) := by
  rw [round_eq (s := k0_pay28 v78 v79 v81 16#32) (y := fun i => IntOp.xori (IntOp.ori
    (IntOp.shli .vector (k0_pay27 v78 v79 v81 16#32 i) 24#32) (IntOp.shrui .vector (k0_pay27 v78 v79 v81 16#32 i) 8#32))
    (k0_pay28 v78 v79 v81 16#32 i)) rfl rfl (by decide) (by decide)]
  rfl

/-- The third key injection. -/
theorem inj3 (v27 : BitVec 32) (v78 v79 v81 : IVec S256x1024 32) (i : S256x1024.Idx) :
    inj 0#32 42#32 3#32 (k0_pay36 v27 v78 v79 v81 16#32 i, k0_pay37 v27 v78 v79 v81 16#32 i)
      = (k0_pay38 v27 v78 v79 v81 16#32 i, k0_pay39 (k0_pay37 v27 v78 v79 v81 16#32) i) := rfl

/-- The fourth key injection. -/
theorem inj4 (v126 v128 : IVec S256x1024 32) (i : S256x1024.Idx) :
    inj 42#32 k2 4#32 (rnd 24#32 8#32 (k0_pay44 v126 v128 i, k0_pay45 v126 v128 i))
      = (k0_pay46 v126 v128 i + 42#32, k0_pay47 k2 v126 v128 i) := by
  rw [round_eq (s := k0_pay46 v126 v128) (y := fun i => IntOp.xori (IntOp.ori (IntOp.shli .vector (k0_pay45 v126 v128 i) 24#32)
    (IntOp.shrui .vector (k0_pay45 v126 v128 i) 8#32)) (k0_pay46 v126 v128 i)) rfl rfl (by decide) (by decide)]
  rfl

/-- The last three rounds, the last key injection, and the uniform number of the word. -/
theorem pay51_eq (v48 v173 v174 : IVec S256x1024 32) (i : S256x1024.Idx) (h : v174 i = v48 i + v173 i) :
    k0_pay51 (F := Ideal) k2 v173 v174 i = 0 - Ideal.log (unif
      ((inj k2 0#32 5#32 (rnd 6#32 26#32 (rnd 26#32 6#32 (rnd 15#32 17#32 (v48 i, v173 i))))).1
        ^^^ (inj k2 0#32 5#32 (rnd 6#32 26#32 (rnd 26#32 6#32 (rnd 15#32 17#32 (v48 i, v173 i))))).2)) := by
  obtain ⟨y1, h1⟩ : ∃ y : IVec S256x1024 32, y = xori (ori (shli v173 (broadcast S256x1024 15#32))
    (shrui v173 (broadcast S256x1024 17#32))) v174 := ⟨_, rfl⟩
  obtain ⟨s2, h2⟩ : ∃ y : IVec S256x1024 32, y = addi v174 y1 := ⟨_, rfl⟩
  obtain ⟨y2, h3⟩ : ∃ y : IVec S256x1024 32, y = xori (ori (shli y1 (broadcast S256x1024 26#32))
    (shrui y1 (broadcast S256x1024 6#32))) s2 := ⟨_, rfl⟩
  obtain ⟨s3, h4⟩ : ∃ y : IVec S256x1024 32, y = addi s2 y2 := ⟨_, rfl⟩
  obtain ⟨y3, h5⟩ : ∃ y : IVec S256x1024 32, y = xori (ori (shli y2 (broadcast S256x1024 6#32))
    (shrui y2 (broadcast S256x1024 26#32))) s3 := ⟨_, rfl⟩
  have r1 : rnd 15#32 17#32 (v48 i, v173 i) = (v174 i, y1 i) := round_eq h (by rw [h1]; rfl) (by decide) (by decide)
  have r2 : rnd 26#32 6#32 (v174 i, y1 i) = (s2 i, y2 i) :=
    round_eq (by rw [h2]; rfl) (by rw [h3]; rfl) (by decide) (by decide)
  have r3 : rnd 6#32 26#32 (s2 i, y2 i) = (s3 i, y3 i) :=
    round_eq (by rw [h4]; rfl) (by rw [h5]; rfl) (by decide) (by decide)
  rw [r1, r2, r3]
  unfold k0_pay51
  rw [← h1, ← h2, ← h3, ← h4, ← h5]
  refine (unif_vec _ i).trans ?_
  have hw : xori (addi s3 (broadcast S256x1024 k2)) (addi (addi y3 (broadcast S256x1024 0#32)) (broadcast S256x1024 5#32)) i
      = (inj k2 0#32 5#32 (s3 i, y3 i)).1 ^^^ (inj k2 0#32 5#32 (s3 i, y3 i)).2 := rfl
  rw [hw]

/-- The noise's inner logarithm, at an element, from the element's counter. -/
theorem noise_eq (I : grid0.Coords) (i : S256x1024.Idx) {v31 v33 v35 v78 v79 v81 v126 v128 : IVec S256x1024 32}
    (h31 : v31 = k0_pay11 I) (h33 : v33 = k0_pay12 I) (h35 : v35 = k0_pay13 I) (h78 : v78 = k0_pay24 k2 v31 v33 v35)
    (h79 : v79 = k0_pay25 k2 v31 v33 v35) (h81 : v81 = k0_pay26 k2 v31 v33 v35) (h126 : v126 = k0_pay37 k2 v78 v79 v81 16#32)
    (h128 : v128 = k0_pay38 k2 v78 v79 v81 16#32) :
    k0_pay51 (F := Ideal) k2 (k0_pay49 k2 v126 v128) (k0_pay50 k2 v126 v128) i = 0 - Ideal.log (unif (word (counter I i))) := by
  have h50 : k0_pay50 k2 v126 v128 i = k0_pay48 k2 v126 v128 i + k0_pay49 k2 v126 v128 i := rfl
  have hA : mixA (0#32, counter I i + 42#32)
      = rnd 6#32 26#32 (k0_pay17 v31 v33 v35 i, k0_pay18 v31 v33 v35 i) := by
    unfold mixA
    rw [← pay10_eq, r13, ← h31, ← h33, ← h35, r15, r26]
  have hB : mixB (k0_pay19 v31 v33 v35 i + 42#32, k0_pay20 k2 v31 v33 v35 i)
      = rnd 24#32 8#32 (v79 i, k0_pay27 v78 v79 v81 16#32 i) := by
    unfold mixB
    rw [r17, r29, r16, ← h78, ← h79, ← h81]
  have hC : mixA (k0_pay28 v78 v79 v81 16#32 i + k2, k0_pay29 v78 v79 v81 16#32 i)
      = (k0_pay36 k2 v78 v79 v81 16#32 i, v126 i) := by
    unfold mixA
    rw [r13', r15', r26', r6', ← h126]
  have hD : mixB (v128 i, k0_pay39 v126 i) = rnd 24#32 8#32 (k0_pay44 v126 v128 i, k0_pay45 v126 v128 i) := by
    unfold mixB
    rw [r17', r29', r16']
  have hE : mixA (k0_pay46 v126 v128 i + 42#32, k0_pay47 k2 v126 v128 i)
      = rnd 6#32 26#32 (rnd 26#32 6#32 (rnd 15#32 17#32 (k0_pay48 k2 v126 v128 i, k0_pay49 k2 v126 v128 i))) := by
    unfold mixA
    rw [r13'']
  have h3 : inj 0#32 42#32 3#32 (k0_pay36 k2 v78 v79 v81 16#32 i, v126 i) = (v128 i, k0_pay39 v126 i) := by
    rw [h126, inj3, ← h128]
  have ht : threefry 0#32 42#32 k2 (0#32, counter I i)
      = inj k2 0#32 5#32 (rnd 6#32 26#32 (rnd 26#32 6#32 (rnd 15#32 17#32 (k0_pay48 k2 v126 v128 i, k0_pay49 k2 v126 v128 i)))) := by
    unfold threefry
    dsimp only
    rw [BitVec.add_zero, hA, inj1, hB, inj2, hC, h3, hD, inj4, hE]
  unfold word
  rw [pay51_eq (k0_pay48 k2 v126 v128) _ _ i h50, ht]

end Cert.KernelIdeal.Gen
-- ==== Proof.KBlock.lean ====
/- What a grid point of the kernel leaves in its output block: the payload of the final store, over the point's ids, the
   three parts of the logarithms that the first point stored, and the point's noise. -/
module

public import proofs.«01_k».proof.Proof.Gen.KernelIdeal.Frame
public import proofs.«01_k».proof.Proof.KBits
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe Idealize.SL.Sem Idealize.ShloMosaic.Tactic
open Cert.Words

variable {F : FTy → Type} [FloatOps F] [Named F]

/-- The pair of words after two groups of rounds, at the point `I`: its first word summed, second word, and second word shifted. -/
def mid78 (I : grid0.Coords) : IVec S256x1024 32 := k0_pay24 466689008#32 (k0_pay11 I) (k0_pay12 I) (k0_pay13 I)
@[inherit_doc mid78]
def mid79 (I : grid0.Coords) : IVec S256x1024 32 := k0_pay25 466689008#32 (k0_pay11 I) (k0_pay12 I) (k0_pay13 I)
@[inherit_doc mid78]
def mid81 (I : grid0.Coords) : IVec S256x1024 32 := k0_pay26 466689008#32 (k0_pay11 I) (k0_pay12 I) (k0_pay13 I)

/-- The pair of words after three groups of rounds, at the point `I`. -/
def mid126 (I : grid0.Coords) : IVec S256x1024 32 := k0_pay37 466689008#32 (mid78 I) (mid79 I) (mid81 I) 16#32
@[inherit_doc mid126]
def mid128 (I : grid0.Coords) : IVec S256x1024 32 := k0_pay38 466689008#32 (mid78 I) (mid79 I) (mid81 I) 16#32

/-- The noise of the point `I` before its outer logarithm. -/
def noiseVec (I : grid0.Coords) : FVec F S256x1024 .f32 :=
  k0_pay51 466689008#32 (k0_pay49 466689008#32 (mid126 I) (mid128 I)) (k0_pay50 466689008#32 (mid126 I) (mid128 I))

/-- The noise of an element comes from the word of its counter. -/
theorem noiseVec_apply (I : grid0.Coords) (i : S256x1024.Idx) :
    noiseVec (F := Ideal) I i = 0 - Ideal.log (unif (word (counter I i))) := by
  have hk : (466689008#32 : BitVec 32) = k2 := by decide
  unfold noiseVec
  refine Eq.trans ?_ (noise_eq I i (v126 := mid126 I) (v128 := mid128 I) (v78 := mid78 I) (v79 := mid79 I) (v81 := mid81 I)
    rfl rfl rfl (by unfold mid78; rw [hk]) (by unfold mid79; rw [hk]) (by unfold mid81; rw [hk]) (by unfold mid126; rw [hk])
    (by unfold mid128; rw [hk]))
  rw [hk]

/-- The output block of the point `I` over its ids `x` and the table `q`. -/
def blockOut (I : grid0.Coords) (x : Vec F S256x1 .i32) (q : Vec F S1024x1024 .f32) : IVec S256x1 32 :=
  k0_pay1 (iota .tc S256x1024 32 [1] iota_S256x1024_d1_w32) (k0_pay9 x (k0_pay6 q) (k0_pay7 q) (k0_pay8 q)) (noiseVec (F := F) I)

variable (m : (ℓ : Loc nD τ sig) → Buf (Elt F) ℓ)

/-- The output block of the first point. -/
theorem out_first (c : Dev nD) (t : Fin cfg0.N) (h : t.val % 32 = 0) :
    (outsAt0 m c t.val t.isLt).1 = blockOut (grid0.coords t) (iblk m c 0 t) (iblk m c 1 t) := by
  rw [outsAt0_A m c t h]
  dsimp only
  frame_open
  simp (disch := decide) only [↓ View.readCov_skip, ↓ View.readCov_cons_toLoadRect, ↓ View.readCov_fill]
  frame_out
  unfold blockOut noiseVec mid126 mid128 mid78 mid79 mid81
  rfl

/-- The scratch after the first point: the three parts of the logarithms of its table block. -/
theorem scratch_first (c : Dev nD) (t : Fin cfg0.N) (h : t.val % 32 = 0) : (outsAt0 m c t.val t.isLt).2
    = (k0_pay6 (iblk m c 1 t), k0_pay7 (iblk m c 1 t), k0_pay8 (iblk m c 1 t)) := by
  rw [outsAt0_A m c t h]
  refine Prod.ext ?_ (Prod.ext ?_ ?_)
  · dsimp only
    frame_out
  · dsimp only
    frame_out
  · dsimp only
    frame_out

/-- The output block of a later point, when the scratch before it holds the three parts of a table's logarithms. -/
theorem out_later (c : Dev nD) (t : Fin cfg0.N) (h : ¬ t.val % 32 = 0) (q : Vec F S1024x1024 .f32)
    (hq : (outsAt0 m c (t.val - 1) (by omega)).2 = (k0_pay6 q, k0_pay7 q, k0_pay8 q)) :
    (outsAt0 m c t.val t.isLt).1 = blockOut (grid0.coords t) (iblk m c 0 t) q := by
  have h1 := congrArg (fun p => p.1) hq
  have h2 := congrArg (fun p => p.2.1) hq
  have h3 := congrArg (fun p => p.2.2) hq
  dsimp only at h1 h2 h3
  rw [outsAt0_B m c t h]
  dsimp only
  frame_out
  simp only [read_unread_whole]
  rw [h1, h2, h3]
  unfold blockOut noiseVec mid126 mid128 mid78 mid79 mid81
  rfl

/-- A later point leaves the scratch as the point before it did. -/
theorem scratch_later (c : Dev nD) (t : Fin cfg0.N) (h : ¬ t.val % 32 = 0) :
    (outsAt0 m c t.val t.isLt).2 = (outsAt0 m c (t.val - 1) (by omega)).2 := by
  rw [outsAt0_B m c t h]
  rfl

/-- The three stored parts are the first point's at every point. -/
theorem scratch_all (c : Dev nD) (n : Nat) (hn : n < cfg0.N) : (outsAt0 m c n hn).2
    = (k0_pay6 (iblk m c 1 ⟨0, by decide⟩), k0_pay7 (iblk m c 1 ⟨0, by decide⟩), k0_pay8 (iblk m c 1 ⟨0, by decide⟩)) := by
  have hN : cfg0.N = 32 := N_0
  induction n with
  | zero => exact scratch_first m c ⟨0, hn⟩ (Nat.zero_mod _)
  | succ n ih =>
    rw [scratch_later m c ⟨n + 1, hn⟩ (by dsimp only; omega)]
    exact ih _

/-- What a grid point leaves in its output block. -/
theorem out_all (c : Dev nD) (t : Fin cfg0.N) :
    (outsAt0 m c t.val t.isLt).1 = blockOut (grid0.coords t) (iblk m c 0 t) (iblk m c 1 ⟨0, by decide⟩) := by
  have hN : cfg0.N = 32 := N_0
  have ht := t.isLt
  by_cases h : t.val % 32 = 0
  · have h0 : t = ⟨0, by decide⟩ := Fin.ext (by dsimp only; omega)
    subst h0
    exact out_first m c _ h
  · exact out_later m c t h _ (scratch_all m c _ _)

end Cert.KernelIdeal.Gen

end
-- ==== Proof.Pick.lean ====
/- The first index at which a row of extended reals is greatest, found in two ways: by a maximum and then the least index that
   reaches it, and by one pass over value and index pairs. -/
module

public import proofs.«01_k».proof.Defs
public import Idealize.ShloMosaic.Lib.Pointwise

@[expose] public section

namespace Cert.Pick

open Idealize.ShloMosaic

/-- The word `w` is the first index at which `s` is greatest. -/
def IsPick (s : Fin 1000 → EReal) (w : BitVec 32) : Prop :=
  ∃ k : Fin 1000, w = BitVec.ofNat 32 k.val ∧ (∀ c, s c ≤ s k) ∧ ∀ c, s c = s k → k ≤ c

/-- There is one such word. -/
theorem IsPick.unique {s : Fin 1000 → EReal} {w w' : BitVec 32} (h : IsPick s w) (h' : IsPick s w') : w = w' := by
  obtain ⟨k, rfl, hk, hl⟩ := h
  obtain ⟨k', rfl, hk', hl'⟩ := h'
  have e : s k = s k' := le_antisymm (hk' k) (hk k')
  rw [le_antisymm (hl k' e.symm) (hl' k e)]

/-- A small number's word read signed. -/
theorem toInt_small (n : Nat) (h : n < 2000) : (BitVec.ofNat 32 n).toInt = n := by
  have h1 : (BitVec.ofNat 32 n).toNat = n := by
    rw [BitVec.toNat_ofNat]; exact Nat.mod_eq_of_lt (by omega)
  rw [BitVec.toInt_eq_toNat_of_lt (by omega), h1]

/-- A fold that at each step keeps one of the two, with a key no greater than either's, ends with one of what it saw, of
    least key. -/
theorem fold_least {ι α γ : Type} [LinearOrder γ] [DecidableEq ι] (op : α → α → α) [Std.Commutative op] [Std.Associative op]
    (key : α → γ) (hs : ∀ a b, op a b = a ∨ op a b = b) (ha : ∀ a b, key (op a b) ≤ key a) (hb : ∀ a b, key (op a b) ≤ key b)
    (z : α) (f : ι → α) (S : Finset ι) :
    (S.fold op z f = z ∨ ∃ i ∈ S, S.fold op z f = f i) ∧ key (S.fold op z f) ≤ key z ∧ ∀ i ∈ S, key (S.fold op z f) ≤ key (f i) := by
  induction S using Finset.induction_on with
  | empty => exact ⟨.inl rfl, le_refl _, fun i hi => absurd hi (Finset.notMem_empty i)⟩
  | insert i S hi ih =>
    rw [Finset.fold_insert hi]
    obtain ⟨h1, h2, h3⟩ := ih
    refine ⟨?_, (hb _ _).trans h2, fun j hj => ?_⟩
    · rcases hs (f i) (S.fold op z f) with h | h
      · exact .inr ⟨i, Finset.mem_insert_self _ _, h⟩
      · rcases h1 with h1 | ⟨j, hj, h1⟩
        · exact .inl (h.trans h1)
        · exact .inr ⟨j, Finset.mem_insert_of_mem hj, h.trans h1⟩
    · rcases Finset.mem_insert.mp hj with rfl | hj
      · exact ha _ _
      · exact (hb _ _).trans (h3 j hj)

/-- The same of a pass over a list. -/
theorem foldl_least {α γ : Type} [LinearOrder γ] (op : α → α → α) (key : α → γ) (hs : ∀ a b, op a b = a ∨ op a b = b)
    (ha : ∀ a b, key (op a b) ≤ key a) (hb : ∀ a b, key (op a b) ≤ key b) (l : List α) (z : α) :
    (l.foldl op z = z ∨ l.foldl op z ∈ l) ∧ key (l.foldl op z) ≤ key z ∧ ∀ e ∈ l, key (l.foldl op z) ≤ key e := by
  induction l generalizing z with
  | nil => exact ⟨.inl rfl, le_refl _, fun i hi => absurd hi List.not_mem_nil⟩
  | cons a l ih =>
    rw [List.foldl_cons]
    obtain ⟨h1, h2, h3⟩ := ih (op z a)
    refine ⟨?_, h2.trans (ha _ _), fun e he => ?_⟩
    · rcases h1 with h1 | h1
      · rcases hs z a with h | h
        · exact .inl (h1.trans h)
        · exact .inr (by rw [h1, h]; exact List.mem_cons_self)
      · exact .inr (List.mem_cons_of_mem _ h1)
    · rcases List.mem_cons.mp he with rfl | he
      · exact h2.trans (hb _ _)
      · exact h3 e he

/-- The signed minimum keeps one of the two. -/
theorem minsi_cases (a b : BitVec 32) : IntOp.minsi a b = a ∨ IntOp.minsi a b = b := by
  unfold IntOp.minsi; split <;> simp

/-- The signed minimum is no greater than the first … -/
theorem minsi_le_left (a b : BitVec 32) : (IntOp.minsi a b).toInt ≤ a.toInt := by
  unfold IntOp.minsi
  split
  · exact le_refl _
  · rename_i h; simp only [BitVec.slt, BitVec.sle, decide_eq_true_eq] at h; omega

/-- … nor than the second. -/
theorem minsi_le_right (a b : BitVec 32) : (IntOp.minsi a b).toInt ≤ b.toInt := by
  unfold IntOp.minsi
  split
  · rename_i h; simp only [BitVec.slt, BitVec.sle, decide_eq_true_eq] at h; omega
  · exact le_refl _

/-- The maximum of the row, padded with minus infinity to 1024 columns, then the least column reaching it. -/
theorem pick_of_max_min {s : Fin 1000 → EReal} {l : Fin 1024 → EReal} (hlo : ∀ c : Fin 1000, l ⟨c.val, by omega⟩ = s c)
    (hhi : ∀ c : Fin 1024, 1000 ≤ c.val → l c = ⊥) :
    IsPick s (Finset.fold IntOp.minsi 2147483647#32
      (fun c : Fin 1024 => if l c = Finset.fold max ⊥ l Finset.univ then BitVec.ofNat 32 c.val else 1024#32) Finset.univ) := by
  obtain ⟨M, hM⟩ : ∃ M, M = Finset.fold max ⊥ l Finset.univ := ⟨_, rfl⟩
  have hle : ∀ c, l c ≤ M := fun c => by
    rw [hM]; exact (Finset.le_fold_max (l c)).mpr (.inr ⟨c, Finset.mem_univ c, le_refl _⟩)
  have hreach : ∃ c0 : Fin 1000, l ⟨c0.val, by omega⟩ = M := by
    have h := (fold_least (ι := Fin 1024) (γ := ERealᵒᵈ) (max : EReal → EReal → EReal) OrderDual.toDual (fun a b => max_choice a b)
      (fun a b => le_max_left a b) (fun a b => le_max_right a b) ⊥ l Finset.univ).1
    rw [← hM] at h
    have h0 : M = ⊥ → ∃ c0 : Fin 1000, l ⟨c0.val, by omega⟩ = M := fun hb =>
      ⟨0, le_antisymm (hle _) (by rw [hb]; exact bot_le)⟩
    rcases h with h | ⟨c, -, h⟩
    · exact h0 h
    · by_cases hc : c.val < 1000
      · exact ⟨⟨c.val, hc⟩, h.symm⟩
      · exact h0 (h.trans (hhi c (by omega)))
  rw [← hM]
  obtain ⟨c0, hc0⟩ := hreach
  obtain ⟨h1, -, h3⟩ := fold_least (ι := Fin 1024) IntOp.minsi BitVec.toInt minsi_cases minsi_le_left minsi_le_right 2147483647#32
    (fun c : Fin 1024 => if l c = M then BitVec.ofNat 32 c.val else 1024#32) Finset.univ
  generalize Finset.fold IntOp.minsi 2147483647#32
    (fun c : Fin 1024 => if l c = M then BitVec.ofNat 32 c.val else 1024#32) Finset.univ = R at h1 h3
  have hb : ∀ c : Fin 1000, s c = M → R.toInt ≤ c.val := fun c hc => by
    have h := h3 ⟨c.val, by omega⟩ (Finset.mem_univ _)
    rw [if_pos ((hlo c).trans hc), toInt_small _ (by dsimp only; omega)] at h
    exact h
  have hR := hb c0 ((hlo c0).symm.trans hc0)
  have hlt := c0.isLt
  rcases h1 with h1 | ⟨c, -, h1⟩
  · rw [h1] at hR
    have : (2147483647#32 : BitVec 32).toInt = 2147483647 := by decide
    omega
  · by_cases hc : l c = M
    · rw [if_pos hc] at h1
      have hcR : R.toInt = c.val := by rw [h1, toInt_small _ (by omega)]
      have hck : c.val < 1000 := by omega
      have hs : s ⟨c.val, hck⟩ = M := (hlo ⟨c.val, hck⟩).symm.trans hc
      refine ⟨⟨c.val, hck⟩, h1, fun c' => ?_, fun c' h' => ?_⟩
      · rw [hs, ← hlo]; exact hle _
      · have := hb c' (h'.trans hs)
        exact Fin.le_def.mpr (by dsimp only; omega)
    · rw [if_neg hc] at h1
      rw [h1, toInt_small _ (by omega)] at hR
      omega

/-- The key by which a pair goes first: a greater value, or the same value at a lesser index. -/
noncomputable def key (p : EReal × BitVec 32) : ERealᵒᵈ ×ₗ ℤ := toLex (OrderDual.toDual p.1, p.2.toInt)

/-- The strict order of the keys, in values and indices. -/
theorem key_lt_iff (a b : EReal × BitVec 32) : key a < key b ↔ b.1 < a.1 ∨ (a.1 = b.1 ∧ a.2.toInt < b.2.toInt) := by
  unfold key
  rw [Prod.Lex.toLex_lt_toLex]
  exact Iff.rfl

/-- The order of the keys, in values and indices. -/
theorem key_le_iff (a b : EReal × BitVec 32) : key a ≤ key b ↔ b.1 < a.1 ∨ (a.1 = b.1 ∧ a.2.toInt ≤ b.2.toInt) := by
  unfold key
  rw [Prod.Lex.toLex_le_toLex]
  exact Iff.rfl

open Classical in
/-- One pass over the row's pairs, in any order, that at each step keeps the pair that goes first. -/
theorem pick_of_pass {s : Fin 1000 → EReal} (op : EReal × BitVec 32 → EReal × BitVec 32 → EReal × BitVec 32)
    (hop : ∀ a b, op a b = if key a < key b then a else b) (l : List (EReal × BitVec 32))
    (hl : ∀ p, p ∈ l ↔ ∃ c : Fin 1000, p = (s c, BitVec.ofNat 32 c.val)) : IsPick s (l.foldl op (⊥, 0#32)).2 := by
  obtain ⟨h1, -, h3⟩ := foldl_least op key (fun a b => by rw [hop]; split <;> simp)
    (fun a b => by rw [hop]; split; exacts [le_refl _, not_lt.mp (by assumption)])
    (fun a b => by rw [hop]; split; exacts [le_of_lt (by assumption), le_refl _]) l (⊥, 0#32)
  have hk : ∃ k : Fin 1000, l.foldl op (⊥, 0#32) = (s k, BitVec.ofNat 32 k.val) := by
    rcases h1 with h1 | h1
    · have h := h3 _ ((hl _).mpr ⟨0, rfl⟩)
      rw [h1, key_le_iff] at h
      refine ⟨0, h1.trans (Prod.ext ?_ rfl)⟩
      rcases h with h | h
      · exact absurd h (not_lt.mpr bot_le)
      · exact h.1
    · exact (hl _).mp h1
  obtain ⟨k, hk⟩ := hk
  refine ⟨k, congrArg Prod.snd hk, fun c => ?_, fun c hc => ?_⟩
  · have h := h3 _ ((hl _).mpr ⟨c, rfl⟩)
    rw [hk, key_le_iff] at h
    rcases h with h | h
    · exact le_of_lt h
    · exact le_of_eq h.1.symm
  · have h := h3 _ ((hl _).mpr ⟨c, rfl⟩)
    rw [hk, key_le_iff] at h
    rcases h with h | h
    · exact absurd hc (ne_of_lt h)
    · have h2 := h.2
      dsimp only at h2
      rw [toInt_small _ (by omega), toInt_small _ (by omega)] at h2
      exact Fin.le_def.mpr (by omega)

end Cert.Pick
-- ==== Proof.KRow.lean ====
/- A row of a grid point's block: the one-hot product picks the token's row of logarithms exactly, and the payload of the
   final store is the first column at which logarithm and noise are greatest together. -/
module

public import proofs.«01_k».proof.Proof.KBlock
public import proofs.«01_k».proof.Proof.Pick

@[expose] public section

noncomputable section

namespace Cert.KernelIdeal.Gen

open Idealize.ShloMosaic Idealize.SL.Sem
open Cert.Words Cert.Pick

/-- The logarithm of a table entry with the small number added. -/
def lg (q : EReal) : EReal := Ideal.log (q + Ideal.ofBits .f32 0x0DA24260#32)

/-- The one-hot factor of a column: one at the token, zero elsewhere. -/
theorem hot (n a : Nat) (hn : n < 1024) (ha : a < 1000) :
    (FloatOps.sitofp (F := Ideal) .f32 (BitVec.setWidth 32 (IntOp.cmpi .eq (BitVec.ofNat 32 n) (BitVec.ofNat 32 a))) : EReal)
      = if n = a then 1 else 0 := by
  have hb : ∀ k : Nat, k < 1024 → (BitVec.ofNat 32 k).toNat = k := fun k hk => by
    rw [BitVec.toNat_ofNat]; exact Nat.mod_eq_of_lt (by omega)
  by_cases h : n = a
  · subst h
    rw [if_pos rfl]
    have hc : IntOp.cmpi .eq (BitVec.ofNat 32 n) (BitVec.ofNat 32 n) = 1#1 := by simp [IntOp.cmpi]
    rw [hc]
    show ((((BitVec.setWidth 32 1#1).toInt : ℝ)) : EReal) = 1
    have : (BitVec.setWidth 32 1#1).toInt = 1 := by decide
    rw [this]; norm_num
  · rw [if_neg h]
    have hne : BitVec.ofNat 32 n ≠ BitVec.ofNat 32 a := fun e => h (by
      have := congrArg BitVec.toNat e
      rwa [hb n hn, hb a (by omega)] at this)
    have hc : IntOp.cmpi .eq (BitVec.ofNat 32 n) (BitVec.ofNat 32 a) = 0#1 := by
      show BitVec.ofBool (BitVec.ofNat 32 n == BitVec.ofNat 32 a) = 0#1
      rw [beq_false_of_ne hne]; rfl
    rw [hc]
    show ((((BitVec.setWidth 32 0#1).toInt : ℝ)) : EReal) = 0
    have : (BitVec.setWidth 32 0#1).toInt = 0 := by decide
    rw [this]; norm_num

/-- The one-hot sum is the entry at the token. -/
theorem hot_sum (a : Fin 1000) (v : Fin 1024 → EReal) :
    ∑ n : Fin 1024, (FloatOps.sitofp (F := Ideal) .f32
      (BitVec.setWidth 32 (IntOp.cmpi .eq (BitVec.ofNat 32 n.val) (BitVec.ofNat 32 a.val))) : EReal) * v n
      = v ⟨a.val, by omega⟩ := by
  rw [Finset.sum_eq_single (⟨a.val, by omega⟩ : Fin 1024)]
  · rw [hot _ _ (by dsimp only; omega) a.isLt, if_pos rfl, one_mul]
  · intro n _ hn
    rw [hot _ _ n.isLt a.isLt, if_neg (fun h => hn (Fin.ext h)), zero_mul]
  · intro h
    exact absurd (Finset.mem_univ _) h

/-- The three parts add up to the number they are split from, unless it is plus infinity. -/
theorem parts_sum (L : EReal) (h : L ≠ ⊤) : L + ((L - L) + ((L - L) - (L - L))) = L := by
  induction L using EReal.rec with
  | bot => exact EReal.bot_add _
  | top => exact absurd rfl h
  | coe r => rw [← EReal.coe_sub, sub_self, ← EReal.coe_sub, ← EReal.coe_add, ← EReal.coe_add]; norm_num

/-- The product of the one-hot rows with the three parts is the token's row of logarithms. -/
theorem row_eq (x : Vec Ideal S256x1 .i32) (q : Vec Ideal S1024x1024 .f32) (r : Fin 256) (c : Fin 1024) (a : Fin 1000)
    (hx : x (ix2 r 0) = BitVec.ofNat 32 a.val) (hq : lg (q (ix2 (⟨a.val, by omega⟩ : Fin 1024) c)) ≠ ⊤) :
    k0_pay9 (F := Ideal) x (k0_pay6 q) (k0_pay7 q) (k0_pay8 q) (ix2 r c) = lg (q (ix2 (⟨a.val, by omega⟩ : Fin 1024) c)) := by
  have h6 : ∀ j : S1024x1024.Idx, k0_pay6 (F := Ideal) q j = lg (q j) := fun j => by
    unfold k0_pay6 k0_pay3 k0_pay2 lg
    pointwise
  have h7 : ∀ j : S1024x1024.Idx, k0_pay7 (F := Ideal) q j = lg (q j) - lg (q j) := fun j => by
    unfold k0_pay7 k0_pay5 k0_pay4 k0_pay3 k0_pay2 lg
    pointwise
  have h8 : ∀ j : S1024x1024.Idx, k0_pay8 (F := Ideal) q j = (lg (q j) - lg (q j)) - (lg (q j) - lg (q j)) := fun j => by
    unfold k0_pay8 k0_pay5 k0_pay4 k0_pay3 k0_pay2 lg
    pointwise
  generalize k0_pay6 (F := Ideal) q = q1 at h6 ⊢
  generalize k0_pay7 (F := Ideal) q = q2 at h7 ⊢
  generalize k0_pay8 (F := Ideal) q = q3 at h8 ⊢
  unfold k0_pay9
  pointwise
  have e0 : (ix2 r c : S256x1024.Idx) 0 = r := rfl
  have e1 : (ix2 r c : S256x1024.Idx) 1 = c := rfl
  rw [hx, hot_sum a fun n => q1 (ix2 n c), hot_sum a fun n => q2 (ix2 n c), hot_sum a fun n => q3 (ix2 n c), h6, h7, h8]
  exact parts_sum _ hq

/-- The mask is minus infinity. -/
theorem mask_eq : (Named.named (F := Ideal) κ "mask" (φ := .f32) 0xFF61B1E6#32 : EReal) = ⊥ :=
  IdealRules.named_const.ideal_named_scalar _ _ _ _ rfl

/-- The pattern a maximum starts from is minus infinity. -/
theorem bot_bits : Ideal.ofBits .f32 0xFF800000#32 = ⊥ := by simp [Ideal.ofBits, Ideal.ieee]

/-- A column compared with the number of columns. -/
theorem slt_small (n : Nat) (h : n < 1024) : IntOp.cmpi .slt (BitVec.ofNat 32 n) 1000#32 = if n < 1000 then 1#1 else 0#1 := by
  have e : IntOp.cmpi .slt (BitVec.ofNat 32 n) 1000#32
      = BitVec.ofBool (decide ((BitVec.ofNat 32 n).toInt < (1000#32 : BitVec 32).toInt)) := rfl
  rw [e, toInt_small n (by omega), toInt_small 1000 (by omega)]
  by_cases hn : n < 1000
  · have : decide ((n : ℤ) < ((1000 : ℕ) : ℤ)) = true := decide_eq_true (by omega)
    rw [if_pos hn, this]; rfl
  · have : decide ((n : ℤ) < ((1000 : ℕ) : ℤ)) = false := decide_eq_false (by omega)
    rw [if_neg hn, this]; rfl

/-- The numbers of a row with minus infinity in the columns past the last token. -/
def masked (v18 v218 : FVec Ideal S256x1024 .f32) (r : Fin 256) (c : Fin 1024) : EReal :=
  Scalar.select (IntOp.cmpi .slt (BitVec.ofNat 32 c.val) 1000#32) (v18 (ix2 r c) + (0 - Ideal.log (v218 (ix2 r c))))
    (Named.named (F := Ideal) κ "mask" (φ := .f32) 0xFF61B1E6#32)

/-- The payload of the final store, as a maximum and a minimum. -/
theorem pay1_eq (v18 v218 : FVec Ideal S256x1024 .f32) (r : Fin 256) :
    k0_pay1 (F := Ideal) (iota .tc S256x1024 32 [1] iota_S256x1024_d1_w32) v18 v218 (ix2 r 0)
      = Finset.fold IntOp.minsi 2147483647#32 (fun c : Fin 1024 => if masked v18 v218 r c
          = Finset.fold max (Ideal.ofBits .f32 0xFF800000#32) (masked v18 v218 r) Finset.univ then BitVec.ofNat 32 c.val else 1024#32)
          Finset.univ := by
  unfold k0_pay1 masked
  pointwise

/-- The payload of the final store, at a row whose first thousand columns hold the numbers `s`. -/
theorem pay1_pick (v18 v218 : FVec Ideal S256x1024 .f32) (r : Fin 256) (s : Fin 1000 → EReal)
    (h : ∀ c : Fin 1000, v18 (ix2 r (⟨c.val, by omega⟩ : Fin 1024)) + (0 - Ideal.log (v218 (ix2 r (⟨c.val, by omega⟩ : Fin 1024)))) = s c) :
    IsPick s (k0_pay1 (F := Ideal) (iota .tc S256x1024 32 [1] iota_S256x1024_d1_w32) v18 v218 (ix2 r 0)) := by
  have hlo : ∀ c : Fin 1000, masked v18 v218 r ⟨c.val, by omega⟩ = s c := fun c => by
    unfold masked
    rw [slt_small _ (by dsimp only; omega), if_pos c.isLt, Scalar.select, if_pos (by decide), h]
  have hhi : ∀ c : Fin 1024, 1000 ≤ c.val → masked v18 v218 r c = ⊥ := fun c hc => by
    unfold masked
    rw [slt_small _ (by omega), if_neg (by omega), Scalar.select, if_neg (by decide), mask_eq]
  rw [pay1_eq, bot_bits]
  exact pick_of_max_min hlo hhi

/-- The score of token `a` moving to column `c` in the row whose counters are `n`. -/
def score (q : Fin 1000 → EReal) (n : Fin 1000 → BitVec 32) (c : Fin 1000) : EReal := lg (q c) + gum (word (n c))

/-- A row of a point's block is the first column of greatest score. -/
theorem block_pick (I : grid0.Coords) (x : Vec Ideal S256x1 .i32) (q : Vec Ideal S1024x1024 .f32) (r : Fin 256) (a : Fin 1000)
    (hx : x (ix2 r 0) = BitVec.ofNat 32 a.val)
    (hq : ∀ c : Fin 1000, lg (q (ix2 (⟨a.val, by omega⟩ : Fin 1024) (⟨c.val, by omega⟩ : Fin 1024))) ≠ ⊤) :
    IsPick (score (fun c => q (ix2 (⟨a.val, by omega⟩ : Fin 1024) (⟨c.val, by omega⟩ : Fin 1024)))
        fun c => counter I (ix2 r (⟨c.val, by omega⟩ : Fin 1024))) (blockOut I x q (ix2 r 0)) := by
  refine pay1_pick _ _ r _ fun c => ?_
  rw [row_eq x q r _ a hx (hq c), noiseVec_apply, zero_sub, zero_sub]
  rfl

end Cert.KernelIdeal.Gen
end
-- ==== Proof.Table.lean ====
/- The table that a run draws from, and the counter of a row and a column: what both programs use. -/
module

public import proofs.«01_k».proof.Defs

@[expose] public section

namespace Cert.Words

open Idealize.ShloMosaic

/-- The table number that the programs slice at: the argument, counted from the end when it is negative. -/
def tbl (t : BitVec 32) : BitVec 32 := Scalar.select (IntOp.cmpi .slt t 0#32) (IntOp.addi t 32#32) t

/-- The table that they take: that number, brought into range. -/
def tab (t : BitVec 32) : Fin 32 := ⟨(min (max (tbl t).toInt 0) 31).toNat, by omega⟩

/-- The counter of a row and a column. -/
def cnt (n : Fin 8192) (c : Fin 1000) : BitVec 32 := BitVec.ofNat 32 (n.val * 1000 + c.val)

end Cert.Words
-- ==== Proof.KRun.lean ====
/- The kernel's run: what its host operations hand to the region, the array that the region leaves, and the result read
   off it, row by row the first column of greatest score. -/
module

public import proofs.«01_k».proof.Proof.KRow
public import proofs.«01_k».proof.Proof.Table
public import Idealize.ShloMosaic.Lib.Claim

@[expose] public section

set_option maxRecDepth 16384

noncomputable section

namespace Cert.KernelIdeal.Gen

open Idealize.ShloMosaic Idealize.ShloMosaic.TcCoe Idealize.SL.Sem Idealize.ShloMosaic.Tactic
open Cert.Words Cert.Pick

variable {F : FTy → Type} [FloatOps F] [Named F]
variable (m : (ℓ : Loc nD τ sig) → Buf (Elt F) ℓ)

/-- The table before padding, at a row and a column: the slice of the argument at the table number. -/
theorem V10 (c : Dev nD) (a b : Fin 1000) : V m c main_call0_v10 (ix2 a b) =
    Host.dynamicSlice S1x1000x1000 (m ((c.tc : Thread nD τ).loc main_arg2)) ![(tbl (m ((c.tc : Thread nD τ).loc main_arg1) (Shape.Idx.first h_S_))).toInt, 0, 0] sliceFits_S32x1000x1000_S1x1000x1000 (ix3 0 a b) := by
  generalize hR : Host.dynamicSlice S1x1000x1000 (m ((c.tc : Thread nD τ).loc main_arg2)) ![(tbl (m ((c.tc : Thread nD τ).loc main_arg1) (Shape.Idx.first h_S_))).toInt, 0, 0] sliceFits_S32x1000x1000_S1x1000x1000 (ix3 0 a b) = R
  simp only [V, V0, List.flatten_cons, List.flatten_nil, List.append_nil]
  unfold hostOps0
  after_results
  pointwise
  rw [← hR]
  refine congrFun (congrArg (fun s => Host.dynamicSlice S1x1000x1000 (m ((c.tc : Thread nD τ).loc main_arg2)) s sliceFits_S32x1000x1000_S1x1000x1000) ?_) _
  funext k
  match k with
  | 0 =>
    refine congrArg BitVec.toInt ?_
    rfl
  | 1 => rfl
  | 2 => rfl

/-- The padded table at a row and column of the table proper. -/
theorem V11 (c : Dev nD) (a b : Fin 1000) : V m c main_call0_v11 (ix2 (⟨a.val, by omega⟩ : Fin 1024) (⟨b.val, by omega⟩ : Fin 1024)) =
    m ((c.tc : Thread nD τ).loc main_arg2) (ix3 (tab (m ((c.tc : Thread nD τ).loc main_arg1) (Shape.Idx.first h_S_))) a b) := by
  have h : V m c main_call0_v11 = pad S1024x1024 ![0, 0] ![24, 24] ![0, 0] (V m c main_call0_v10) (V m c main_call0_call0_v0) pads_S1000x1000_S1024x1024_0240_0240 h_S_ := rfl
  rw [h]
  have h2 : pad S1024x1024 ![0, 0] ![24, 24] ![0, 0] (V m c main_call0_v10) (V m c main_call0_call0_v0) pads_S1000x1000_S1024x1024_0240_0240 h_S_ (ix2 (⟨a.val, by omega⟩ : Fin 1024) (⟨b.val, by omega⟩ : Fin 1024)) = V m c main_call0_v10 (ix2 a b) := by
    generalize V m c main_call0_v10 = x
    generalize V m c main_call0_call0_v0 = z
    pointwise
    rw [dif_pos]
    intro d
    match d with
    | 0 => exact ⟨Nat.zero_le _, Nat.mod_one _, by show (a.val - 0) / (0 + 1) < 1000; simp⟩
    | 1 => exact ⟨Nat.zero_le _, Nat.mod_one _, by show (b.val - 0) / (0 + 1) < 1000; simp⟩
  rw [h2, V10]
  pointwise
  refine congrArg _ ?_
  have e1 : ∀ k : Nat, (min (max (0 : Int) 0) ((1000 - 1000 : Nat) : Int)).toNat + k = k := fun k => by simp
  refine congrArg₂ (fun (p : Fin 1000) (q : Fin 1000) => ix3 (tab (m ((c.tc : Thread nD τ).loc main_arg1) (Shape.Idx.first h_S_))) p q) (Fin.ext ?_) (Fin.ext ?_)
  · exact e1 _
  · exact e1 _

/-- The tokens as a column. -/
theorem V12 (c : Dev nD) (n : Fin 8192) : V m c main_call0_v12 (ix2 n 0) = m ((c.tc : Thread nD τ).loc main_arg0) (ix2 0 n) := by
  simp only [V, V0, List.flatten_cons, List.flatten_nil, List.append_nil]
  unfold hostOps0
  after_results
  pointwise

/-- A point's block of tokens. -/
theorem blk0 (c : Dev nD) (t : Fin cfg0.N) (r : Fin 256) : iblk m c 0 t (ix2 r 0) = m ((c.tc : Thread nD τ).loc main_arg0) (ix2 0 (⟨256 * t.val + r.val, by have := t.isLt; have h : cfg0.N = 32 := rfl; omega⟩ : Fin 8192)) := by
  rw [← V12 m c]
  have idx : ∀ t : Fin grid0.N, win0_0.index t = ![t.val, 0] := by decide +kernel
  blk_ext [iblk, idx t]

/-- A point's block of the table is the whole of it. -/
theorem blk1 (c : Dev nD) (t : Fin cfg0.N) (j : S1024x1024.Idx) : iblk m c 1 t j = V m c main_call0_v11 j := by
  have idx : ∀ t : Fin grid0.N, win0_1.index t = ![0, 0] := by decide +kernel
  blk_ext [iblk, idx t]

/-- What the point `t` writes in its row `q`. -/
def rowOut (c : Dev nD) (t : Fin cfg0.N) (q : Fin 256) : Elt F .i32 :=
  blockOut (grid0.coords t) (iblk m c 0 t) (iblk m c 1 ⟨0, by decide⟩) (ix2 q 0)

/-- The array the region leaves: each row from the point that writes it. -/
def colOut (c : Dev nD) : Vec F S8192x1 .i32 := fun y =>
  rowOut m c ⟨(y 0).val / 256, by have := idx_lt y; have e : cfg0.N = 32 := rfl; omega⟩ ⟨(y 0).val % 256, Nat.mod_lt _ (by decide)⟩
where
  idx_lt (y : S8192x1.Idx) : (y 0).val < 8192 := (y 0).isLt

/-- A row of that array, by the point and the place in its block. -/
theorem colOut_eq (c : Dev nD) (y : S8192x1.Idx) (t : Fin cfg0.N) (q : Fin 256) (h : (y 0).val = 256 * t.val + q.val) :
    colOut m c y = rowOut m c t q := by
  have hq := q.isLt
  unfold colOut
  congr 1 <;> apply Fin.ext <;> dsimp only <;> omega

/-- Every point writes its rows, and no row is left out. -/
theorem arr_eq (c : Dev nD) : (dats m 0 c).arrAt 2 cfg0.N = colOut m c := by
  have idx : ∀ t : Fin grid0.N, win0_2.index t = ![t.val, 0] := by decide +kernel
  refine (dats m 0 c).arrAt_eq_of_covers 2 _ (by decide +kernel) fun t hf y => ?_
  have e0 : ((win0_2.blk t).view.emb y 0).val = 256 * t.val + (y 0).val := by
    blk_simp [idx t]
    omega
  have hy : (y 0).val < 256 := (y 0).isLt
  have hy1 : y = ix2 (⟨(y 0).val, hy⟩ : Fin 256) 0 := by
    funext d
    match d with
    | 0 => rfl
    | 1 => exact Subsingleton.elim (α := Fin 1) _ _
  have key := colOut_eq m c ((win0_2.blk t).view.emb y) t ⟨(y 0).val, hy⟩ e0
  blk_simp
  rw [after0_2, out_all]
  refine Eq.trans ?_ key.symm
  unfold rowOut
  rw [← hy1]

/-- The run leaves that array, as a row, in the result, and the arguments as they were. -/
theorem run_out (g : Dev nD → PrngReg) :
    θ_run defs (onTc (τ := τ) (main (F := F))) ⟨m, fun _ => 0, g⟩ (fun r => (∀ c : Dev nD,
      r.2.mem ((c.tc : Thread nD τ).loc main_v0) = (fun i => colOut m c (ix2 (i 1) 0)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2)) ∧ r.2.sem = fun _ => 0) := by
  refine θ_run_mono (θ_run_and (run_main_quiescent m g) (frame m g)) fun r hr => ⟨fun c => ⟨?_, hr.2.1 c⟩, hr.2.2⟩
  rw [(hr.1.1 c).2 main_v0 (Pipeline.mem_restRefs_of main_v0 (by decide) (by decide))]
  unfold Pipeline.afterTail₀
  simp only [List.flatten_cons, List.flatten_nil, List.append_nil]
  unfold hostOps1
  after_results
  funext i
  pointwise
  rw [← arr_eq]
  exact congrFun (Pipeline.withArrays_arr spec0 (by decide) c (V0 m c) (fun w => (dats m 0 c).arrAt w (cfgs 0).N) 2) _

/-- The kernel's counter at a point, a row and a column is the counter of the row of the whole and the column. -/
theorem counter_eq (t : Fin cfg0.N) (q : Fin 256) (k : Fin 1000) (n : Fin 8192) (h : n.val = 256 * t.val + q.val) :
    counter (grid0.coords t) (ix2 q (⟨k.val, by omega⟩ : Fin 1024)) = cnt n k := by
  have e : ∀ t : Fin grid0.N, (grid0.coords t 0).val = t.val := by decide +kernel
  unfold counter cnt
  rw [e t, h]
  show (BitVec.ofNat 32 t.val * 256#32 + BitVec.ofNat 32 q.val) * 1000#32 + BitVec.ofNat 32 k.val = _
  rw [← BitVec.ofNat_mul, ← BitVec.ofNat_add, ← BitVec.ofNat_mul, ← BitVec.ofNat_add, Nat.mul_comm t.val 256]

/-- The array at a row whose token is `a`: the first column of greatest score in that row of the table. -/
theorem col_pick (m : (ℓ : Loc nD τ sig) → Buf (Elt Ideal) ℓ) (c : Dev nD) (n : Fin 8192) (a : Fin 1000)
    (ha : m ((c.tc : Thread nD τ).loc main_arg0) (ix2 0 n) = BitVec.ofNat 32 a.val)
    (hq : ∀ k : Fin 1000, lg (m ((c.tc : Thread nD τ).loc main_arg2)
      (ix3 (tab (m ((c.tc : Thread nD τ).loc main_arg1) (Shape.Idx.first h_S_))) a k)) ≠ ⊤) :
    IsPick (score (fun k => m ((c.tc : Thread nD τ).loc main_arg2)
      (ix3 (tab (m ((c.tc : Thread nD τ).loc main_arg1) (Shape.Idx.first h_S_))) a k)) (cnt n)) (colOut m c (ix2 n 0)) := by
  have ht : n.val / 256 < cfg0.N := by have := n.isLt; have e : cfg0.N = 32 := rfl; omega
  have hn : n.val = 256 * (n.val / 256) + n.val % 256 := by omega
  rw [colOut_eq m c (ix2 n 0) ⟨n.val / 256, ht⟩ ⟨n.val % 256, Nat.mod_lt _ (by decide)⟩ hn]
  unfold rowOut
  have hT : ∀ k : Fin 1000, iblk m c 1 ⟨0, by decide⟩ (ix2 (⟨a.val, by omega⟩ : Fin 1024) (⟨k.val, by omega⟩ : Fin 1024)) =
      m ((c.tc : Thread nD τ).loc main_arg2) (ix3 (tab (m ((c.tc : Thread nD τ).loc main_arg1) (Shape.Idx.first h_S_))) a k) :=
    fun k => (blk1 m c ⟨0, by decide⟩ _).trans (V11 m c a k)
  have h := block_pick (grid0.coords ⟨n.val / 256, ht⟩) (iblk m c 0 ⟨n.val / 256, ht⟩) (iblk m c 1 ⟨0, by decide⟩)
    ⟨n.val % 256, Nat.mod_lt _ (by decide)⟩ a
    ((blk0 m c _ _).trans ((congrArg (fun i : Fin 8192 => m ((c.tc : Thread nD τ).loc main_arg0) (ix2 0 i)) (Fin.ext hn.symm)).trans ha))
    (fun k => by rw [hT]; exact hq k)
  have e1 : (fun k : Fin 1000 => iblk m c 1 ⟨0, by decide⟩ (ix2 (⟨a.val, by omega⟩ : Fin 1024) (⟨k.val, by omega⟩ : Fin 1024))) = _ := funext hT
  have e2 : (fun k : Fin 1000 => counter (grid0.coords ⟨n.val / 256, ht⟩) (ix2 (⟨n.val % 256, Nat.mod_lt _ (by decide)⟩ : Fin 256) (⟨k.val, by omega⟩ : Fin 1024))) = cnt n :=
    funext fun k => counter_eq _ _ k n hn
  rw [e2] at h
  rw [← e1]
  exact h

end Cert.KernelIdeal.Gen
-- ==== Proof.RefBits.lean ====
/- What the reference's generator computes, element by element: from contents that satisfy the operations of its line, the
   two words it ends with are the generator's on the words it starts from. -/
module

public import proofs.«01_k».proof.Proof.RefOps
public import proofs.«01_k».proof.Proof.Words

@[expose] public section

namespace Cert.ReferenceIdeal.Ops

open Idealize.ShloMosaic Idealize.ShloMosaic.StableHlo Idealize.SL.Sem
open Idealize.ShloMosaic.TcCoe
open Facts₀ Facts
open Cert.Line Cert.Words

variable {F : FTy → Type} [FloatOps F]

/-- The contents of a typed reference's buffer, at its type. -/
def rd {T : BufTy} (W : Valuation τ sig (Elt F)) (x : StableHlo.TRef sig T) : T.Contents (Elt F) :=
  x.ofBuf (W (x.ref : DevRef τ sig))

/-- A constant, read back. -/
theorem rd_nullary {W : Valuation τ sig (Elt F)} {T : BufTy} {y : StableHlo.TRef sig T} {v : T.Contents (Elt F)}
    (h : ∀ b ∈ (StableHlo.TRef.nullary (τ := τ) y v).writes, W b = (StableHlo.TRef.nullary (τ := τ) y v).result W b) :
    rd W y = v := by
  have h' := h (y.ref : DevRef τ sig) (Finset.mem_singleton_self _)
  rw [nullary_result] at h'
  unfold rd
  rw [h', StableHlo.TRef.ofBuf_toBuf]

/-- An operation of one operand, read back. -/
theorem rd_unary {W : Valuation τ sig (Elt F)} {T U : BufTy} {x : StableHlo.TRef sig T} {y : StableHlo.TRef sig U}
    {f : T.Contents (Elt F) → U.Contents (Elt F)}
    (h : ∀ b ∈ (StableHlo.TRef.unary (τ := τ) x y f).writes, W b = (StableHlo.TRef.unary (τ := τ) x y f).result W b) :
    rd W y = f (rd W x) := by
  have h' := h (y.ref : DevRef τ sig) (Finset.mem_singleton_self _)
  rw [unary_result] at h'
  unfold rd
  rw [h', StableHlo.TRef.ofBuf_toBuf]

/-- An operation of two operands, read back. -/
theorem rd_binary {W : Valuation τ sig (Elt F)} {T U V : BufTy} {x : StableHlo.TRef sig T} {y : StableHlo.TRef sig U}
    {z : StableHlo.TRef sig V} {f : T.Contents (Elt F) → U.Contents (Elt F) → V.Contents (Elt F)}
    (h : ∀ b ∈ (StableHlo.TRef.binary (τ := τ) x y z f).writes, W b = (StableHlo.TRef.binary (τ := τ) x y z f).result W b) :
    rd W z = f (rd W x) (rd W y) := by
  have h' := h (z.ref : DevRef τ sig) (Finset.mem_singleton_self _)
  rw [binary_result] at h'
  unfold rd
  rw [h', StableHlo.TRef.ofBuf_toBuf]

/-- A round of the line is the round on words. -/
theorem round_val {W : Valuation τ sig (Elt F)} {x0 x1 s : Ar} {cl : Wd} {bl sl : Ar} {cr : Wd} {br sr o y : Ar} {l r : BitVec 32}
    (h : Sat W (roundOps x0 x1 s cl bl sl cr br sr o y l r)) (hl : l.toNat < 32) (hr : r.toNat < 32) (i : S8192x1000.Idx) :
    (((rd W s i : BitVec 32), (rd W y i : BitVec 32)) : BitVec 32 × BitVec 32) = rnd l r (rd W x0 i, rd W x1 i) := by
  unfold roundOps at h
  obtain ⟨e1, h⟩ := h.cons
  obtain ⟨e2, h⟩ := h.cons
  obtain ⟨e3, h⟩ := h.cons
  obtain ⟨e4, h⟩ := h.cons
  obtain ⟨e5, h⟩ := h.cons
  obtain ⟨e6, h⟩ := h.cons
  obtain ⟨e7, h⟩ := h.cons
  obtain ⟨e8, h⟩ := h.cons
  obtain ⟨e9, -⟩ := h.cons
  have e1 := rd_binary e1
  have e2 := rd_nullary e2
  have e3 := rd_unary e3
  have e4 := rd_binary e4
  have e5 := rd_nullary e5
  have e6 := rd_unary e6
  have e7 := rd_binary e7
  have e8 := rd_binary e8
  have e9 := rd_binary e9
  have hL : (rd W sl i : BitVec 32) = (rd W x1 i : BitVec 32) <<< l := by
    rw [e4, e3, e2]; exact shli_lt _ _ _ hl
  have hR : (rd W sr i : BitVec 32) = (rd W x1 i : BitVec 32) >>> r := by
    rw [e7, e6, e5]; exact shrui_lt _ _ _ hr
  have hS : (rd W s i : BitVec 32) = (rd W x0 i : BitVec 32) + (rd W x1 i : BitVec 32) := by rw [e1]; rfl
  have hO : (rd W o i : BitVec 32) = (rd W sl i : BitVec 32) ||| (rd W sr i : BitVec 32) := by rw [e8]; rfl
  have hY : (rd W y i : BitVec 32) = (rd W s i : BitVec 32) ^^^ (rd W o i : BitVec 32) := by rw [e9]; rfl
  unfold rnd rot
  rw [hY, hO, hL, hR, hS]

/-- A key injection of the line is the injection on words. -/
theorem inject_val {W : Valuation τ sig (Elt F)} {x0 x1 : Ar} {ka kb : Wd} {ba y0 bb t : Ar} {c : Wd} {bc y1 : Ar} {n a b : BitVec 32}
    (h : Sat W (injectOps x0 x1 ka kb ba y0 bb t c bc y1 n)) (ha : rd W ka = constantI S_ 32 a) (hb : rd W kb = constantI S_ 32 b)
    (i : S8192x1000.Idx) :
    (((rd W y0 i : BitVec 32), (rd W y1 i : BitVec 32)) : BitVec 32 × BitVec 32) = inj a b n (rd W x0 i, rd W x1 i) := by
  unfold injectOps at h
  obtain ⟨e1, h⟩ := h.cons
  obtain ⟨e2, h⟩ := h.cons
  obtain ⟨e3, h⟩ := h.cons
  obtain ⟨e4, h⟩ := h.cons
  obtain ⟨e5, h⟩ := h.cons
  obtain ⟨e6, h⟩ := h.cons
  obtain ⟨e7, -⟩ := h.cons
  have e1 := rd_unary e1
  have e2 := rd_binary e2
  have e3 := rd_unary e3
  have e4 := rd_binary e4
  have e5 := rd_nullary e5
  have e6 := rd_unary e6
  have e7 := rd_binary e7
  rw [ha] at e1
  rw [hb] at e3
  have h0 : (rd W y0 i : BitVec 32) = (rd W x0 i : BitVec 32) + a := by rw [e2, e1]; rfl
  have h1 : (rd W y1 i : BitVec 32) = (rd W x1 i : BitVec 32) + b + n := by rw [e7, e6, e5, e4, e3]; rfl
  unfold inj
  rw [h0, h1]

/-- The generator of the line is the generator on words. -/
theorem threefry_val {W : Valuation τ sig (Elt F)} {arg0 arg1 : Wd} {arg2 arg3 : Ar} {φ : fn_threefry2x32.Bufs}
    (h : Sat W (threefryOps arg0 arg1 arg2 arg3 φ)) {k0 k1 : BitVec 32} (h0 : rd W arg0 = constantI S_ 32 k0)
    (h1 : rd W arg1 = constantI S_ 32 k1) (i : S8192x1000.Idx) :
    (((rd W φ.v171 i : BitVec 32), (rd W φ.v175 i : BitVec 32)) : BitVec 32 × BitVec 32)
      = threefry k0 k1 ((k0 ^^^ k1) ^^^ 466688986#32) (rd W arg2 i, rd W arg3 i) := by
  unfold threefryOps at h
  obtain ⟨hs, h⟩ := h.append
  obtain ⟨g0, h⟩ := h.append
  obtain ⟨g1, h⟩ := h.append
  obtain ⟨g2, h⟩ := h.append
  obtain ⟨g3, g4⟩ := h.append
  unfold startOps at hs
  obtain ⟨e1, hs⟩ := hs.cons
  obtain ⟨e2, hs⟩ := hs.cons
  obtain ⟨e3, hs⟩ := hs.cons
  obtain ⟨e4, hs⟩ := hs.cons
  obtain ⟨e5, hs⟩ := hs.cons
  obtain ⟨e6, hs⟩ := hs.cons
  obtain ⟨e7, -⟩ := hs.cons
  have e1 := rd_binary e1
  have e2 := rd_nullary e2
  have e3 := rd_binary e3
  have e4 := rd_unary e4
  have e5 := rd_binary e5
  have e6 := rd_unary e6
  have e7 := rd_binary e7
  have hk : rd W φ.v1 = constantI S_ 32 ((k0 ^^^ k1) ^^^ 466688986#32) := by
    rw [e3, e2, e1, h0, h1]; rfl
  have a0 : (rd W φ.v3 i : BitVec 32) = (rd W arg2 i : BitVec 32) + k0 := by rw [e5, e4, h0]; rfl
  have a1 : (rd W φ.v5 i : BitVec 32) = (rd W arg3 i : BitVec 32) + k1 := by rw [e7, e6, h1]; rfl
  unfold group0Ops at g0
  unfold group1Ops at g1
  unfold group2Ops at g2
  unfold group3Ops at g3
  unfold group4Ops at g4
  unfold threefry mixA mixB
  obtain ⟨r1, g0⟩ := g0.append
  obtain ⟨r2, g0⟩ := g0.append
  obtain ⟨r3, g0⟩ := g0.append
  obtain ⟨r4, j0⟩ := g0.append
  obtain ⟨r5, g1⟩ := g1.append
  obtain ⟨r6, g1⟩ := g1.append
  obtain ⟨r7, g1⟩ := g1.append
  obtain ⟨r8, j1⟩ := g1.append
  obtain ⟨r9, g2⟩ := g2.append
  obtain ⟨r10, g2⟩ := g2.append
  obtain ⟨r11, g2⟩ := g2.append
  obtain ⟨r12, j2⟩ := g2.append
  obtain ⟨r13, g3⟩ := g3.append
  obtain ⟨r14, g3⟩ := g3.append
  obtain ⟨r15, g3⟩ := g3.append
  obtain ⟨r16, j3⟩ := g3.append
  obtain ⟨r17, g4⟩ := g4.append
  obtain ⟨r18, g4⟩ := g4.append
  obtain ⟨r19, g4⟩ := g4.append
  obtain ⟨r20, j4⟩ := g4.append
  rw [inject_val j4 hk h0 i, round_val r20 (by decide) (by decide) i, round_val r19 (by decide) (by decide) i,
    round_val r18 (by decide) (by decide) i, round_val r17 (by decide) (by decide) i,
    inject_val j3 h1 hk i, round_val r16 (by decide) (by decide) i, round_val r15 (by decide) (by decide) i,
    round_val r14 (by decide) (by decide) i, round_val r13 (by decide) (by decide) i,
    inject_val j2 h0 h1 i, round_val r12 (by decide) (by decide) i, round_val r11 (by decide) (by decide) i,
    round_val r10 (by decide) (by decide) i, round_val r9 (by decide) (by decide) i,
    inject_val j1 hk h0 i, round_val r8 (by decide) (by decide) i, round_val r7 (by decide) (by decide) i,
    round_val r6 (by decide) (by decide) i, round_val r5 (by decide) (by decide) i,
    inject_val j0 h1 hk i, round_val r4 (by decide) (by decide) i, round_val r3 (by decide) (by decide) i,
    round_val r2 (by decide) (by decide) i, round_val r1 (by decide) (by decide) i, a0, a1]

end Cert.ReferenceIdeal.Ops
-- ==== Proof.RefNoise.lean ====
/- The reference's noise, element by element: the Gumbel noise of the random word at the counter of the row and the
   column. -/
module

public import proofs.«01_k».proof.Proof.RefBits
public import proofs.«01_k».proof.Proof.Table
public import Idealize.ShloMosaic.Lib.Pointwise

@[expose] public section

namespace Cert.ReferenceIdeal.Ops

open Idealize.ShloMosaic Idealize.ShloMosaic.StableHlo Idealize.SL.Sem
open Idealize.ShloMosaic.TcCoe
open Facts₀ Facts
open Cert.Line Cert.Words

variable {F : FTy → Type} [FloatOps F]

/-- An operation of four operands, read back. -/
theorem rd_quaternary {W : Valuation τ sig (Elt F)} {T U V R Y : BufTy} {x : StableHlo.TRef sig T} {y : StableHlo.TRef sig U}
    {z : StableHlo.TRef sig V} {e : StableHlo.TRef sig R} {o : StableHlo.TRef sig Y}
    {f : T.Contents (Elt F) → U.Contents (Elt F) → V.Contents (Elt F) → R.Contents (Elt F) → Y.Contents (Elt F)}
    (h : ∀ b ∈ (StableHlo.TRef.quaternary (τ := τ) x y z e o f).writes, W b = (StableHlo.TRef.quaternary (τ := τ) x y z e o f).result W b) :
    rd W o = f (rd W x) (rd W y) (rd W z) (rd W e) := by
  have h' := h (o.ref : DevRef τ sig) (Finset.mem_singleton_self _)
  rw [quaternary_result] at h'
  unfold rd
  rw [h', StableHlo.TRef.ofBuf_toBuf]

/-- A reshape between buffers whose types are known only through equations. -/
theorem cast_reshape {Val : EltTy → Type} {A B T U : BufTy} (hA : A = T) (hB : B = U) (he : T.elt = U.elt)
    (hn : T.shape.ShapeCasts U.shape) (he' : A.elt = B.elt) (hn' : A.shape.ShapeCasts B.shape) (v : A.Contents Val) :
    cast (congrArg (fun X : BufTy => X.Contents Val) hB) (fun i => he' ▸ shapeCast B.shape v hn' i) =
      fun i => he ▸ shapeCast U.shape (cast (congrArg (fun X : BufTy => X.Contents Val) hA) v) hn i := by
  subst hA hB
  rfl

/-- A reshape, read back. -/
theorem rd_reshape {W : Valuation τ sig (Elt F)} {s t : Shape} {ε : EltTy} {x : StableHlo.TRef sig ⟨s, ε⟩}
    {y : StableHlo.TRef sig ⟨t, ε⟩} {hn : s.ShapeCasts t}
    (h : ∀ b ∈ (StableHlo.TRef.reshape (τ := τ) (Val := Elt F) x y rfl hn).writes,
      W b = (StableHlo.TRef.reshape (τ := τ) (Val := Elt F) x y rfl hn).result W b) :
    rd W y = shapeCast t (rd W x) hn := by
  have h' := h (y.ref : DevRef τ sig) (Finset.mem_singleton_self _)
  rw [reshape_result] at h'
  unfold rd
  rw [h']
  exact cast_reshape x.ty_eq y.ty_eq rfl hn _ _ _

/-- The counter of an element, in 64 bits and then cut to 32: no more than its low word is ever set. -/
theorem count_val (n c : Nat) (hn : n < 8192) (hc : c < 1000) :
    ((1000#64 * BitVec.ofNat 64 n + 1#64 * BitVec.ofNat 64 c).setWidth 32 = BitVec.ofNat 32 (n * 1000 + c)) ∧
    ((1000#64 * BitVec.ofNat 64 n + 1#64 * BitVec.ofNat 64 c) >>> 32#64).setWidth 32 = 0#32 := by
  have e : 1000#64 * BitVec.ofNat 64 n + 1#64 * BitVec.ofNat 64 c = BitVec.ofNat 64 (n * 1000 + c) := by
    rw [BitVec.one_mul, ← BitVec.ofNat_mul, ← BitVec.ofNat_add, Nat.mul_comm]
  have hm : (n * 1000 + c) % 18446744073709551616 = n * 1000 + c := Nat.mod_eq_of_lt (by omega)
  rw [e]
  constructor
  · apply BitVec.eq_of_toNat_eq
    simp only [BitVec.toNat_setWidth, BitVec.toNat_ofNat]
    omega
  · apply BitVec.eq_of_toNat_eq
    simp only [BitVec.toNat_setWidth, BitVec.toNat_ofNat, BitVec.ushiftRight_eq', BitVec.toNat_ushiftRight, Nat.shiftRight_eq_div_pow]
    show (n * 1000 + c) % 18446744073709551616 / 4294967296 % 4294967296 = 0
    rw [hm, Nat.div_eq_of_lt (by omega)]

/-- Before the generator: the key's two words, the element's counter with its high word zero, the ends of the interval. -/
theorem uniformPre_val {W : Valuation τ sig (Elt F)} {arg0 : StableHlo.TRef sig ⟨S2, .i32⟩} {arg1 arg2 : StableHlo.TRef sig ⟨S_, .f32⟩}
    {φ : fn_uniform.Bufs} (h : Sat W (uniformPre arg0 arg1 arg2 φ)) {k0 k1 : BitVec 32} (h0 : rd W arg0 (ix1 0) = k0) (h1 : rd W arg0 (ix1 1) = k1) :
    rd W φ.v4 = constantI S_ 32 k0 ∧ rd W φ.v6 = constantI S_ 32 k1 ∧
    (∀ i, (rd W φ.v17 i : BitVec 32) = 0#32 ∧ (rd W φ.v16 i : BitVec 32) = BitVec.ofNat 32 ((i 0).val * 1000 + (i 1).val)) ∧
    rd W φ.v1 = broadcastInDim S1x1 ![] bcast_S_S1x1 (rd W arg2) ∧ rd W φ.v2 = broadcastInDim S1x1 ![] bcast_S_S1x1 (rd W arg1) := by
  unfold uniformPre at h
  obtain ⟨e0, h⟩ := h.cons
  obtain ⟨e1, h⟩ := h.cons
  obtain ⟨e2, h⟩ := h.cons
  obtain ⟨e3, h⟩ := h.cons
  obtain ⟨e4, h⟩ := h.cons
  obtain ⟨e5, h⟩ := h.cons
  obtain ⟨e6, h⟩ := h.cons
  obtain ⟨e7, h⟩ := h.cons
  obtain ⟨e8, h⟩ := h.cons
  obtain ⟨ec, h⟩ := h.cons
  obtain ⟨e9, h⟩ := h.cons
  obtain ⟨e10, h⟩ := h.cons
  obtain ⟨ed, h⟩ := h.cons
  obtain ⟨e11, h⟩ := h.cons
  obtain ⟨e12, h⟩ := h.cons
  obtain ⟨e13, h⟩ := h.cons
  obtain ⟨ef, h⟩ := h.cons
  obtain ⟨e14, h⟩ := h.cons
  obtain ⟨e15, h⟩ := h.cons
  obtain ⟨e16, h⟩ := h.cons
  obtain ⟨e17, -⟩ := h.cons
  have e0 := rd_unary e0
  have e1 := rd_unary e1
  have e2 := rd_unary e2
  have e3 := rd_unary e3
  have e4 := rd_reshape e4
  have e5 := rd_unary e5
  have e6 := rd_reshape e6
  have e7 := rd_nullary e7
  have e8 := rd_nullary e8
  have ec := rd_nullary ec
  have e9 := rd_unary e9
  have e10 := rd_binary e10
  have ed := rd_nullary ed
  have e11 := rd_unary e11
  have e12 := rd_binary e12
  have e13 := rd_binary e13
  have ef := rd_nullary ef
  have e14 := rd_unary e14
  have e15 := rd_binary e15
  have e16 := rd_unary e16
  have e17 := rd_unary e17
  refine ⟨?_, ?_, fun i => ?_, e1, ?_⟩
  · rw [e4, e3]
    generalize rd W arg0 = x at h0 h1
    funext i
    rw [← h0]
    pointwise
  · rw [e6, e5]
    generalize rd W arg0 = x at h0 h1
    funext i
    rw [← h1]
    pointwise
  · have hn : (i 0).val < 8192 := (i 0).isLt
    have hc : (i 1).val < 1000 := (i 1).isLt
    have hs : (rd W φ.v13 i : BitVec 64) = 1000#64 * BitVec.ofNat 64 (i 0).val + 1#64 * BitVec.ofNat 64 (i 1).val := by
      rw [e13, e10, e12, e9, e11, ec, ed, e7, e8]; rfl
    have hh : (rd W φ.v15 i : BitVec 64) = (rd W φ.v13 i : BitVec 64) >>> 32#64 := by
      rw [e15, e14, ef]; exact shrui_lt _ (rd W φ.v13 i) 32#64 (by decide)
    have h16 : (rd W φ.v16 i : BitVec 32) = (rd W φ.v13 i : BitVec 64).setWidth 32 := by rw [e16]; rfl
    have h17 : (rd W φ.v17 i : BitVec 32) = (rd W φ.v15 i : BitVec 64).setWidth 32 := by rw [e17]; rfl
    rw [h17, h16, hh, hs]
    exact ⟨(count_val _ _ hn hc).2, (count_val _ _ hn hc).1⟩
  · rw [e2, e0]; rfl

/-- The uniform number of a word and its Gumbel noise, as the program spells them. -/
theorem unif_host (w : IVec S8192x1000 32) (i : S8192x1000.Idx) :
    maximumf (F := Ideal) (broadcastInDim S8192x1000 ![0, 1] bcast_S1x1_S8192x1000_0_1 (broadcastInDim S1x1 ![] bcast_S_S1x1 (constant S_ .f32 0x00800000#32)))
      (addf (mulf (subf (bitcastToFloat .f32 (ori (Host.shrui w (broadcastInDim S8192x1000 ![] bcast_S_S8192x1000 (constantI S_ 32 9#32)))
        (broadcastInDim S8192x1000 ![] bcast_S_S8192x1000 (constantI S_ 32 1065353216#32))))
        (broadcastInDim S8192x1000 ![] bcast_S_S8192x1000 (constant S_ .f32 0x3F800000#32)))
        (broadcastInDim S8192x1000 ![0, 1] bcast_S1x1_S8192x1000_0_1
          (subf (broadcastInDim S1x1 ![] bcast_S_S1x1 (constant S_ .f32 0x3F800000#32)) (broadcastInDim S1x1 ![] bcast_S_S1x1 (constant S_ .f32 0x00800000#32)))))
        (broadcastInDim S8192x1000 ![0, 1] bcast_S1x1_S8192x1000_0_1 (broadcastInDim S1x1 ![] bcast_S_S1x1 (constant S_ .f32 0x00800000#32)))) i
      = unif (w i) := by
  have hs : ∀ x : BitVec 32, Host.shrui (s := S_) (w := 32) (fun _ => x) (fun _ => 9#32) ix0 = x >>> 9#32 := fun x => shrui_lt _ _ _ (by decide)
  unfold unif tiny one
  pointwise
  rw [shrui_lt .host (w i) 9#32 (by decide)]
  rfl

/-- After the generator: the uniform number of the words it gave. -/
theorem uniformPost_val {W : Valuation τ sig (Elt Ideal)} {φ : fn_uniform.Bufs} (h : Sat W (uniformPost φ))
    (h1 : rd W φ.v1 = broadcastInDim S1x1 ![] bcast_S_S1x1 (constant (F := Ideal) S_ .f32 0x00800000#32))
    (h2 : rd W φ.v2 = broadcastInDim S1x1 ![] bcast_S_S1x1 (constant (F := Ideal) S_ .f32 0x3F800000#32)) (i : S8192x1000.Idx) :
    rd W φ.v33 i = unif ((rd W φ.call0.v171 i : BitVec 32) ^^^ (rd W φ.call0.v175 i : BitVec 32)) := by
  unfold uniformPost at h
  obtain ⟨e19, h⟩ := h.cons
  obtain ⟨ec, h⟩ := h.cons
  obtain ⟨e20, h⟩ := h.cons
  obtain ⟨e21, h⟩ := h.cons
  obtain ⟨ed, h⟩ := h.cons
  obtain ⟨e22, h⟩ := h.cons
  obtain ⟨e23, h⟩ := h.cons
  obtain ⟨e24, h⟩ := h.cons
  obtain ⟨ef, h⟩ := h.cons
  obtain ⟨e25, h⟩ := h.cons
  obtain ⟨e26, h⟩ := h.cons
  obtain ⟨e27, h⟩ := h.cons
  obtain ⟨e28, h⟩ := h.cons
  obtain ⟨e29, h⟩ := h.cons
  obtain ⟨e30, h⟩ := h.cons
  obtain ⟨e31, h⟩ := h.cons
  obtain ⟨e32, h⟩ := h.cons
  obtain ⟨e33, -⟩ := h.cons
  have hw : ((rd W φ.call0.v171 i : BitVec 32) ^^^ (rd W φ.call0.v175 i : BitVec 32)) = rd W φ.v19 i := by rw [rd_binary e19]; rfl
  rw [hw, rd_binary e33, rd_unary e32, rd_binary e31, rd_unary e30, rd_binary e29, rd_unary e28, rd_binary e27, rd_binary e26,
    rd_unary e25, rd_nullary ef, rd_unary e24, rd_binary e23, rd_unary e22, rd_nullary ed, rd_binary e21, rd_unary e20, rd_nullary ec, h1, h2]
  exact unif_host _ i

/-- The noise of the program at an element. -/
theorem noise_val {W : Valuation τ sig (Elt Ideal)} (h : Sat W noiseOps) (h0 : rd W (.of main_v23 : StableHlo.TRef sig ⟨S2, .i32⟩) (ix1 0) = 0#32)
    (h1 : rd W (.of main_v23 : StableHlo.TRef sig ⟨S2, .i32⟩) (ix1 1) = 42#32) (n : Fin 8192) (c : Fin 1000) :
    rd W main_call0.v4 (ix2 n c) = gum (word (cnt n c)) := by
  unfold noiseOps at h
  obtain ⟨hg, h⟩ := h.append
  obtain ⟨hu, h⟩ := h.append
  obtain ⟨ht, h⟩ := h.append
  obtain ⟨hv, hp⟩ := h.append
  unfold gumbelPre at hg
  obtain ⟨g0, hg⟩ := hg.cons
  obtain ⟨g1, -⟩ := hg.cons
  have g0 := rd_nullary g0
  have g1 := rd_nullary g1
  obtain ⟨u0, u1, u2, u3, u4⟩ := uniformPre_val hu h0 h1
  rw [g1] at u3
  rw [g0] at u4
  have t := threefry_val ht u0 u1 (ix2 n c)
  rw [(u2 (ix2 n c)).1, (u2 (ix2 n c)).2] at t
  have v := uniformPost_val hv u3 u4 (ix2 n c)
  unfold gumbelPost at hp
  obtain ⟨p1, hp⟩ := hp.cons
  obtain ⟨p2, hp⟩ := hp.cons
  obtain ⟨p3, hp⟩ := hp.cons
  obtain ⟨p4, -⟩ := hp.cons
  have q1 : rd W main_call0.v1 (ix2 n c) = Ideal.log (rd W main_call0.call0.v33 (ix2 n c)) := by rw [rd_unary p1]; rfl
  have q2 : rd W main_call0.v2 (ix2 n c) = -(rd W main_call0.v1 (ix2 n c) : EReal) := by rw [rd_unary p2]; rfl
  have q3 : rd W main_call0.v3 (ix2 n c) = Ideal.log (rd W main_call0.v2 (ix2 n c)) := by rw [rd_unary p3]; rfl
  have q4 : rd W main_call0.v4 (ix2 n c) = -(rd W main_call0.v3 (ix2 n c) : EReal) := by rw [rd_unary p4]; rfl
  rw [q4, q3, q2, q1, v]
  have t1 := congrArg Prod.fst t
  have t2 := congrArg Prod.snd t
  dsimp only at t1 t2
  rw [t1, t2]
  rfl

end Cert.ReferenceIdeal.Ops
-- ==== Proof.RefRow.lean ====
/- The reference's row of the table for every token and its logarithm, the key of its noise, and its arg max, element by
   element. -/
module

public import proofs.«01_k».proof.Proof.RefNoise
public import proofs.«01_k».proof.Proof.KRow

@[expose] public section

namespace Cert.ReferenceIdeal.Ops

open Idealize.ShloMosaic Idealize.ShloMosaic.StableHlo Idealize.SL.Sem
open Idealize.ShloMosaic.TcCoe
open Facts₀ Facts
open Cert.Line Cert.Words Cert.Pick

variable {F : FTy → Type} [FloatOps F]

/-- A constant, read back. -/
theorem pl_nullary {W : Valuation τ sig (Elt F)} {y : Ref sig .tc} {v : y.ty.Contents (Elt F)} {hy}
    (h : ∀ b ∈ (StableHlo.nullary (τ := τ) y v hy).writes, W b = (StableHlo.nullary (τ := τ) y v hy).result W b) :
    W (y : DevRef τ sig) = v := by
  have h' := h (y : DevRef τ sig) (Finset.mem_singleton_self _)
  rwa [nullary_result] at h'

/-- An operation of one operand, read back. -/
theorem pl_unary {W : Valuation τ sig (Elt F)} {x y : Ref sig .tc} {f : x.ty.Contents (Elt F) → y.ty.Contents (Elt F)} {hx hy}
    (h : ∀ b ∈ (StableHlo.unary (τ := τ) x y f hx hy).writes, W b = (StableHlo.unary (τ := τ) x y f hx hy).result W b) :
    W (y : DevRef τ sig) = f (W (x : DevRef τ sig)) := by
  have h' := h (y : DevRef τ sig) (Finset.mem_singleton_self _)
  rwa [unary_result] at h'

/-- An operation of two operands, read back. -/
theorem pl_binary {W : Valuation τ sig (Elt F)} {a b y : Ref sig .tc}
    {f : a.ty.Contents (Elt F) → b.ty.Contents (Elt F) → y.ty.Contents (Elt F)} {ha hb hy}
    (h : ∀ r ∈ (StableHlo.binary (τ := τ) a b y f ha hb hy).writes, W r = (StableHlo.binary (τ := τ) a b y f ha hb hy).result W r) :
    W (y : DevRef τ sig) = f (W (a : DevRef τ sig)) (W (b : DevRef τ sig)) := by
  have h' := h (y : DevRef τ sig) (Finset.mem_singleton_self _)
  rwa [binary_result] at h'

/-- An operation of three operands, read back. -/
theorem pl_ternary {W : Valuation τ sig (Elt F)} {c a b y : Ref sig .tc}
    {f : c.ty.Contents (Elt F) → a.ty.Contents (Elt F) → b.ty.Contents (Elt F) → y.ty.Contents (Elt F)} {hc ha hb hy}
    (h : ∀ r ∈ (StableHlo.ternary (τ := τ) c a b y f hc ha hb hy).writes, W r = (StableHlo.ternary (τ := τ) c a b y f hc ha hb hy).result W r) :
    W (y : DevRef τ sig) = f (W (c : DevRef τ sig)) (W (a : DevRef τ sig)) (W (b : DevRef τ sig)) := by
  have h' := h (y : DevRef τ sig) (Finset.mem_singleton_self _)
  rwa [ternary_result] at h'

/-- A reshape, read back. -/
theorem pl_reshape {W : Valuation τ sig (Elt F)} {x y : Ref sig .tc} {he : x.ty.elt = y.ty.elt} {hn : x.ty.shape.ShapeCasts y.ty.shape} {hx hy}
    (h : ∀ r ∈ (StableHlo.reshape (τ := τ) (Val := Elt F) x y he hn hx hy).writes,
      W r = (StableHlo.reshape (τ := τ) (Val := Elt F) x y he hn hx hy).result W r) :
    W (y : DevRef τ sig) = fun i => he ▸ shapeCast y.ty.shape (W (x : DevRef τ sig)) hn i := by
  have h' := h (y : DevRef τ sig) (Finset.mem_singleton_self _)
  rwa [reshape_result] at h'

/-- Where the gather's indices lie: the number of the index, in its row. -/
theorem gather_at (n : Fin 8192) (c : Fin 1000) (k : Fin 2) :
    gather_S32x1000x1000_S8192x2_S8192x1000_1_01_n_n_01_1_111000.siIdx (ix2 n c) k = ix2 n k := by
  funext b
  refine Fin.ext ?_
  match b with
  | 0 => rfl
  | 1 => rfl

/-- The gather of a row: the operand at the two indices, each brought into range, and the column. -/
theorem gather_row {α : Type} (q : S32x1000x1000.Idx → α) (idx : IVec S8192x2 32) (n : Fin 8192) (c : Fin 1000) :
    Host.gather gather_S32x1000x1000_S8192x2_S8192x1000_1_01_n_n_01_1_111000 q idx (ix2 n c) =
      q (ix3 ⟨min (idx (ix2 n 0)).toInt.toNat 31, by omega⟩ ⟨min (idx (ix2 n 1)).toInt.toNat 999, by omega⟩ c) := by
  unfold Host.gather
  refine congrArg q ?_
  funext a
  refine Fin.ext ?_
  match a with
  | 0 =>
    show GatherDims.start _ _ _ 0 + GatherDims.batchCoord _ _ 0 + GatherDims.offCoord _ _ 0 = min (idx (ix2 n 0)).toInt.toNat 31
    rw [GatherDims.batchCoord_eq_zero _ _ _ (by decide), GatherDims.offCoord_eq_zero _ _ _ (by decide), Nat.add_zero]
    unfold GatherDims.start
    rw [dif_pos (by decide)]
    exact congrArg (fun i => min (idx i).toInt.toNat 31) (gather_at n c 0)
  | 1 =>
    show GatherDims.start _ _ _ 1 + GatherDims.batchCoord _ _ 1 + GatherDims.offCoord _ _ 1 = min (idx (ix2 n 1)).toInt.toNat 999
    rw [GatherDims.batchCoord_eq_zero _ _ _ (by decide), GatherDims.offCoord_eq_zero _ _ _ (by decide), Nat.add_zero]
    unfold GatherDims.start
    rw [dif_pos (by decide)]
    exact congrArg (fun i => min (idx i).toInt.toNat 999) (gather_at n c 1)
  | 2 =>
    show GatherDims.start _ _ _ 2 + GatherDims.batchCoord _ _ 2 + GatherDims.offCoord _ _ 2 = c.val
    rw [GatherDims.batchCoord_eq_zero _ _ _ (by decide)]
    unfold GatherDims.start
    rw [dif_neg (by decide), Nat.add_zero, Nat.zero_add]
    rfl

/-- The arg max's body, its comparisons on the line of extended reals. -/
theorem reducer_cmp (a b : EReal × BitVec 32) : reducer_argmax_f32_i32 (F := Ideal) a b =
    (Scalar.select (BitVec.ofBool (decide (b.1 < a.1)) ||| BitVec.ofBool (decide (a.1 ≠ a.1))) a.1 b.1,
     Scalar.select ((BitVec.ofBool (decide (b.1 < a.1)) ||| BitVec.ofBool (decide (a.1 ≠ a.1))) |||
       (BitVec.ofBool (decide (a.1 = b.1)) &&& BitVec.ofBool (decide (a.2.toInt < b.2.toInt)))) a.2 b.2) := rfl

open Classical in
/-- The arg max's body keeps the pair that goes first. -/
theorem reducer_val (a b : EReal × BitVec 32) :
    reducer_argmax_f32_i32 (F := Ideal) a b = if key a < key b then a else b := by
  have hk := key_lt_iff a b
  rw [reducer_cmp]
  unfold Scalar.select
  by_cases h1 : b.1 < a.1
  · have h2 : ¬ a.1 = b.1 := (ne_of_lt h1).symm
    rw [if_pos (hk.mpr (.inl h1))]
    refine Prod.ext ?_ ?_ <;> simp [h1, h2]
  · by_cases h2 : a.1 = b.1
    · by_cases h3 : a.2.toInt < b.2.toInt
      · rw [if_pos (hk.mpr (.inr ⟨h2, h3⟩))]
        refine Prod.ext ?_ ?_ <;> simp [h2, h3]
      · rw [if_neg (fun h => (hk.mp h).elim h1 fun h => h3 h.2)]
        refine Prod.ext ?_ ?_ <;> simp [h1, h2, h3]
    · rw [if_neg (fun h => (hk.mp h).elim h1 fun h => h2 h.1)]
      refine Prod.ext ?_ ?_ <;> simp [h1, h2]

/-- The pairs that the arg max of a row passes over. -/
theorem mem_fiber (x : FVec Ideal S8192x1000 .f32) (n : Fin 8192) (p : EReal × BitVec 32) :
    p ∈ Host.argReduceFiber (α := EReal) x (iotaInDim S8192x1000 32 1) reducesTo_S8192x1000_S8192_d1 (ix1 n) ↔
      ∃ c : Fin 1000, p = (x (ix2 n c), BitVec.ofNat 32 c.val) := by
  unfold Host.argReduceFiber
  rw [List.mem_map]
  constructor
  · rintro ⟨k, hk, rfl⟩
    rw [List.mem_filter, decide_eq_true_eq] at hk
    have hk := hk.2
    generalize S8192x1000.rowMajor.symm k = i at hk
    have h0 : i 0 = n := by
      refine Fin.ext ?_
      rw [← Shape.ReducesTo.drop_apply_val_of_eq reducesTo_S8192x1000_S8192_d1 i 0 0, hk]
      rfl
    have hi : i = ix2 n (i 1) := by
      funext a
      match a with
      | 0 => exact h0
      | 1 => rfl
    exact ⟨i 1, Prod.ext (congrArg x hi) rfl⟩
  · rintro ⟨c, rfl⟩
    refine ⟨S8192x1000.rowMajor (ix2 n c), ?_, ?_⟩
    · rw [List.mem_filter, decide_eq_true_eq, Equiv.symm_apply_apply]
      refine ⟨List.mem_finRange _, ?_⟩
      funext a
      match a with
      | 0 =>
        refine Fin.ext ?_
        rw [Shape.ReducesTo.drop_apply_val_of_eq reducesTo_S8192x1000_S8192_d1 (ix2 n c) 0 0]
        rfl
    · rw [Equiv.symm_apply_apply]
      rfl

/-- The arg max of a row picks from it. -/
theorem argmax_val {W : Valuation τ sig (Elt Ideal)} {arg0 : StableHlo.TRef sig ⟨S8192x1000, .f32⟩} {φ : fn_argmax.Bufs}
    (h : Sat W (argmaxOps arg0 φ)) (n : Fin 8192) :
    IsPick (fun c => (rd W arg0 (ix2 n c) : EReal)) (rd W φ.v1_1 (ix1 n)) := by
  unfold argmaxOps at h
  obtain ⟨e0, h⟩ := h.cons
  obtain ⟨e1, h⟩ := h.cons
  obtain ⟨e2, h⟩ := h.cons
  obtain ⟨-, h⟩ := h.cons
  obtain ⟨e3, -⟩ := h.cons
  rw [rd_quaternary e3, rd_nullary e0, rd_nullary e1, rd_nullary e2]
  show IsPick _ (Host.argReduce (F := Ideal) reducer_argmax_f32_i32 _ _ _ _ _ _ (ix1 n)).2
  rw [Ideal.argReduce_eq_reduce2, Host.reduce2_eq_foldl_fiber]
  have hb : (constant (F := Ideal) S_ .f32 0xFF800000#32 (Shape.Idx.first h_S_), constantI S_ 32 0#32 (Shape.Idx.first h_S_)) =
      ((⊥ : EReal), 0#32) := Prod.ext Cert.KernelIdeal.Gen.bot_bits rfl
  rw [hb]
  exact pick_of_pass _ reducer_val _ fun p => mem_fiber _ n p

/-- The two index columns side by side. -/
theorem cols_val (a b : IVec S8192x1 32) (n : Fin 8192) :
    concatenate S8192x2 1 [⟨S8192x1, a⟩, ⟨S8192x1, b⟩] concatenates_S8192x1_S8192x1_S8192x2_d1 (ix2 n 0) = a (ix2 n 0) ∧
    concatenate S8192x2 1 [⟨S8192x1, a⟩, ⟨S8192x1, b⟩] concatenates_S8192x1_S8192x1_S8192x2_d1 (ix2 n 1) = b (ix2 n 0) := by
  constructor
  · pointwise
  · pointwise

/-- The key's two words side by side. -/
theorem words_val (a b : IVec S1 32) :
    concatenate S2 0 [⟨S1, a⟩, ⟨S1, b⟩] concatenates_S1_S1_S2_d0 (ix1 0) = a (ix1 0) ∧
    concatenate S2 0 [⟨S1, a⟩, ⟨S1, b⟩] concatenates_S1_S1_S2_d0 (ix1 1) = b (ix1 0) := by
  constructor
  · pointwise
  · pointwise

/-- The tokens' row as a vector. -/
theorem row_val (x : IVec S1x8192 32) (n : Fin 8192) : shapeCast S8192 x shapeCasts_S1x8192_S8192 (ix1 n) = x (ix2 0 n) := by
  pointwise

/-- There is one index of a scalar. -/
theorem one_index (i j : S_.Idx) : i = j := funext fun a => a.elim0

/-- A vector stood up as a column. -/
theorem col_val (v : IVec S8192 32) (n : Fin 8192) : broadcastInDim S8192x1 ![0] bcast_S8192_S8192x1_0 v (ix2 n 0) = v (ix1 n) := by
  pointwise

/-- A vector laid down as a row. -/
theorem lay_val (v : IVec S8192 32) (n : Fin 8192) : broadcastInDim S1x8192 ![1] bcast_S8192_S1x8192_1 v (ix2 0 n) = v (ix1 n) := by
  pointwise

/-- A column's number is not negative. -/
theorem slt_zero_small (k : Nat) (h : k < 1000) : IntOp.cmpi .slt (BitVec.ofNat 32 k) 0#32 = 0#1 := by
  have e : IntOp.cmpi .slt (BitVec.ofNat 32 k) 0#32 = BitVec.ofBool (decide ((BitVec.ofNat 32 k).toInt < (0#32).toInt)) := rfl
  rw [e, toInt_small k (by omega)]
  have hk : ¬ ((k : Int) < (0#32 : BitVec 32).toInt) := by
    have : (0#32 : BitVec 32).toInt = 0 := rfl
    omega
  rw [decide_eq_false hk]
  rfl

/-- Before the noise: the logarithm of the table's row at every token, and the key's two words. -/
theorem mainPre_val {W : Valuation τ sig (Elt Ideal)} (h : Sat W mainPre) (n : Fin 8192) (a : Fin 1000)
    (ha : (W (main_arg0 : DevRef τ sig) (ix2 0 n) : BitVec 32) = BitVec.ofNat 32 a.val) :
    (∀ c : Fin 1000, (W (main_v16 : DevRef τ sig) (ix2 n c) : EReal) =
      Cert.KernelIdeal.Gen.lg (W (main_arg2 : DevRef τ sig) (ix3 (tab (W (main_arg1 : DevRef τ sig) (Shape.Idx.first h_S_))) a c))) ∧
    (W (main_v23 : DevRef τ sig) (ix1 0) : BitVec 32) = 0#32 ∧ (W (main_v23 : DevRef τ sig) (ix1 1) : BitVec 32) = 42#32 := by
  unfold mainPre at h
  obtain ⟨e_v0, h⟩ := h.cons
  replace e_v0 := pl_reshape e_v0
  obtain ⟨e_c, h⟩ := h.cons
  replace e_c := pl_nullary e_c
  obtain ⟨e_v1, h⟩ := h.cons
  replace e_v1 := pl_binary e_v1
  obtain ⟨e_c_0, h⟩ := h.cons
  replace e_c_0 := pl_nullary e_c_0
  obtain ⟨e_v2, h⟩ := h.cons
  replace e_v2 := pl_binary e_v2
  obtain ⟨e_v3, h⟩ := h.cons
  replace e_v3 := pl_ternary e_v3
  obtain ⟨e_c_1, h⟩ := h.cons
  replace e_c_1 := pl_nullary e_c_1
  obtain ⟨e_v4, h⟩ := h.cons
  replace e_v4 := pl_unary e_v4
  obtain ⟨e_v5, h⟩ := h.cons
  replace e_v5 := pl_binary e_v5
  obtain ⟨e_c_2, h⟩ := h.cons
  replace e_c_2 := pl_nullary e_c_2
  obtain ⟨e_v6, h⟩ := h.cons
  replace e_v6 := pl_unary e_v6
  obtain ⟨e_v7, h⟩ := h.cons
  replace e_v7 := pl_binary e_v7
  obtain ⟨e_v8, h⟩ := h.cons
  replace e_v8 := pl_ternary e_v8
  obtain ⟨e_v9, h⟩ := h.cons
  replace e_v9 := pl_unary e_v9
  obtain ⟨e_v10, h⟩ := h.cons
  replace e_v10 := pl_unary e_v10
  obtain ⟨e_v11, h⟩ := h.cons
  replace e_v11 := pl_unary e_v11
  obtain ⟨e_v12, h⟩ := h.cons
  replace e_v12 := pl_binary e_v12
  obtain ⟨e_v13, h⟩ := h.cons
  replace e_v13 := pl_binary e_v13
  obtain ⟨e_cst, h⟩ := h.cons
  replace e_cst := pl_nullary e_cst
  obtain ⟨e_v14, h⟩ := h.cons
  replace e_v14 := pl_unary e_v14
  obtain ⟨e_v15, h⟩ := h.cons
  replace e_v15 := pl_binary e_v15
  obtain ⟨e_v16, h⟩ := h.cons
  replace e_v16 := pl_unary e_v16
  obtain ⟨e_c_3, h⟩ := h.cons
  replace e_c_3 := pl_nullary e_c_3
  obtain ⟨e_c_4, h⟩ := h.cons
  replace e_c_4 := pl_nullary e_c_4
  obtain ⟨e_v17, h⟩ := h.cons
  replace e_v17 := pl_binary e_v17
  obtain ⟨e_v18, h⟩ := h.cons
  replace e_v18 := pl_unary e_v18
  obtain ⟨e_v19, h⟩ := h.cons
  replace e_v19 := pl_unary e_v19
  obtain ⟨e_c_5, h⟩ := h.cons
  replace e_c_5 := pl_nullary e_c_5
  obtain ⟨e_v20, h⟩ := h.cons
  replace e_v20 := pl_binary e_v20
  obtain ⟨e_v21, h⟩ := h.cons
  replace e_v21 := pl_unary e_v21
  obtain ⟨e_v22, h⟩ := h.cons
  replace e_v22 := pl_unary e_v22
  obtain ⟨e_v23, h⟩ := h.cons
  replace e_v23 := pl_binary e_v23
  have h0 : (W (main_v0 : DevRef τ sig) (ix1 n) : BitVec 32) = BitVec.ofNat 32 a.val := by
    rw [e_v0]; exact (row_val _ n).trans ha
  have h3 : (W (main_v3 : DevRef τ sig) (Shape.Idx.first h_S_) : BitVec 32) = tbl (W (main_arg1 : DevRef τ sig) (Shape.Idx.first h_S_)) := by
    rw [e_v3, e_v1, e_v2, e_c, e_c_0]; rfl
  have h8 : (W (main_v8 : DevRef τ sig) (ix1 n) : BitVec 32) = BitVec.ofNat 32 a.val := by
    rw [e_v8, e_v5, e_v4, e_c_1]
    show Scalar.select (IntOp.cmpi .slt (W (main_v0 : DevRef τ sig) (ix1 n) : BitVec 32) 0#32) _ (W (main_v0 : DevRef τ sig) (ix1 n)) = _
    rw [h0, slt_zero_small _ (by omega)]
    rfl
  have h12 := cols_val (W (main_v10 : DevRef τ sig)) (W (main_v11 : DevRef τ sig)) n
  have h120 : (W (main_v12 : DevRef τ sig) (ix2 n 0) : BitVec 32) = tbl (W (main_arg1 : DevRef τ sig) (Shape.Idx.first h_S_)) := by
    rw [e_v12]
    refine h12.1.trans ?_
    rw [e_v10]
    refine (col_val _ n).trans ?_
    rw [e_v9]
    exact (congrArg (W (main_v3 : DevRef τ sig)) (one_index _ _)).trans h3
  have h121 : (W (main_v12 : DevRef τ sig) (ix2 n 1) : BitVec 32) = BitVec.ofNat 32 a.val := by
    rw [e_v12]
    refine h12.2.trans ?_
    rw [e_v11]
    exact (col_val _ n).trans h8
  refine ⟨fun c => ?_, ?_, ?_⟩
  · have h13 : (W (main_v13 : DevRef τ sig) (ix2 n c) : EReal) =
        W (main_arg2 : DevRef τ sig) (ix3 (tab (W (main_arg1 : DevRef τ sig) (Shape.Idx.first h_S_))) a c) := by
      rw [e_v13]
      refine (gather_row _ _ n c).trans (congrArg (W (main_arg2 : DevRef τ sig)) ?_)
      funext k
      refine Fin.ext ?_
      match k with
      | 0 =>
        show min (W (main_v12 : DevRef τ sig) (ix2 n 0) : BitVec 32).toInt.toNat 31 = (min (max (tbl _).toInt 0) 31).toNat
        rw [h120]
        omega
      | 1 =>
        show min (W (main_v12 : DevRef τ sig) (ix2 n 1) : BitVec 32).toInt.toNat 999 = a.val
        rw [h121, toInt_small _ (by omega)]
        omega
      | 2 => rfl
    rw [e_v16, e_v15, e_v14, e_cst]
    show Ideal.log (@HAdd.hAdd EReal EReal EReal _ (W (main_v13 : DevRef τ sig) (ix2 n c)) (Ideal.ofBits .f32 0x0DA24260#32)) = _
    rw [h13]
    rfl
  · rw [e_v23]
    refine (words_val _ _).1.trans ?_
    rw [e_v19, e_v18, e_v17, e_c_3, e_c_4]
    rfl
  · rw [e_v23]
    refine (words_val _ _).2.trans ?_
    rw [e_v22, e_v21, e_v20, e_c_3, e_c_5]
    rfl

/-- A row of the reference's result picks from that row's scores. -/
theorem ref_pick {W : Valuation τ sig (Elt Ideal)} (h : Sat W mainOps) (n : Fin 8192) (a : Fin 1000)
    (ha : (W (main_arg0 : DevRef τ sig) (ix2 0 n) : BitVec 32) = BitVec.ofNat 32 a.val) :
    IsPick (Cert.KernelIdeal.Gen.score (fun k => W (main_arg2 : DevRef τ sig)
      (ix3 (tab (W (main_arg1 : DevRef τ sig) (Shape.Idx.first h_S_))) a k)) (cnt n)) (W (main_v27 : DevRef τ sig) (ix2 0 n)) := by
  unfold mainOps at h
  obtain ⟨hPre, h⟩ := h.append
  obtain ⟨hNoise, h⟩ := h.append
  obtain ⟨hMid, h⟩ := h.append
  obtain ⟨hArg, hPost⟩ := h.append
  obtain ⟨hlog, hk0, hk1⟩ := mainPre_val hPre n a ha
  have e25 := pl_binary hMid.cons.1
  have e27 := pl_unary hPost.cons.1
  have hpick := argmax_val hArg n
  have hs : (fun c : Fin 1000 => (rd W (.of main_v25 : StableHlo.TRef sig ⟨S8192x1000, .f32⟩) (ix2 n c) : EReal)) =
      Cert.KernelIdeal.Gen.score (fun k => W (main_arg2 : DevRef τ sig)
        (ix3 (tab (W (main_arg1 : DevRef τ sig) (Shape.Idx.first h_S_))) a k)) (cnt n) := by
    funext c
    show (W (main_v25 : DevRef τ sig) (ix2 n c) : EReal) = _
    rw [e25]
    show @HAdd.hAdd EReal EReal EReal _ (W (main_v24 : DevRef τ sig) (ix2 n c)) (W (main_v16 : DevRef τ sig) (ix2 n c)) = _
    have h24 : (W (main_v24 : DevRef τ sig) (ix2 n c) : EReal) = _ := noise_val hNoise hk0 hk1 n c
    rw [h24, hlog c]
    exact add_comm _ _
  rw [hs] at hpick
  rw [e27]
  have hi : (broadcastInDim S1x8192 ![1] bcast_S8192_S1x8192_1 (W (main_v26 : DevRef τ sig)) (ix2 0 n) : BitVec 32) =
      rd W main_call1.v1_1 (ix1 n) := lay_val _ n
  rw [hi]
  exact hpick

end Cert.ReferenceIdeal.Ops
-- ==== Proof.Value.lean ====
/- The claim of the samples: under the precondition, every run of the kernel draws from every row what the reference draws.
   Each side picks the first column of the greatest score of one and the same row of scores. -/
module

public import proofs.«01_k».proof.Proof.KRun
public import proofs.«01_k».proof.Proof.RefRow
public import proofs.«01_k».proof.Proof.RefLine
public import Idealize.ShloMosaic.Lib.ReduceAll

@[expose] public section

namespace Cert.Proof

open Idealize.ShloMosaic Idealize.SL.Sem
open Cert.Words Cert.Pick

/-- What the precondition says: every token is the number of a table's row, and no entry of the tables is plus infinity. -/
theorem pre_read [hP : Cert.Pre_tokens_in_range.Facts] {x : IVec Cert.Pre_tokens_in_range.S1x8192 32} {t : IVec Cert.Pre_tokens_in_range.S_ 32}
    {q : FVec Ideal Cert.Pre_tokens_in_range.S32x1000x1000 .f32}
    (h : Cert.Pre_tokens_in_range.fn (F := Ideal) x t q = fun _ => 1#1) :
    (∀ i, 0 ≤ (x i).toInt ∧ (x i).toInt < 1000) ∧ ∀ i, (q i : EReal) < ⊤ := by
  have h := congrFun h (Shape.Idx.first hP.h_S_)
  obtain ⟨h1, h2⟩ := IntOp.andi_eq_one.1 h
  have hs : Subsingleton Cert.Pre_tokens_in_range.S_.Idx := ⟨fun i j => funext fun a => a.elim0⟩
  constructor
  · intro i
    obtain ⟨ha, hb⟩ := IntOp.andi_eq_one.1 (Host.reduce_andi_all _ _ _ _ _ h1 i)
    exact ⟨IntOp.cmpi_sge.1 ha, IntOp.cmpi_slt.1 hb⟩
  · intro i
    have hc := Host.reduce_andi_all _ _ _ _ _ h2 i
    have hc : BitVec.ofBool (decide ((q i : EReal) < Ideal.ofBits .f32 0x7F800000#32)) = 1#1 := hc
    have hi : Ideal.ofBits .f32 0x7F800000#32 = ⊤ := by simp [Ideal.ofBits, Ideal.ieee]
    rw [hi] at hc
    by_contra hn
    rw [decide_eq_false hn] at hc
    exact absurd hc (by decide)

/-- A token in range is the word of a column's number. -/
theorem token_col (x : BitVec 32) (h0 : 0 ≤ x.toInt) (h1 : x.toInt < 1000) : ∃ a : Fin 1000, x = BitVec.ofNat 32 a.val := by
  refine ⟨⟨x.toInt.toNat, by omega⟩, BitVec.eq_of_toInt_eq ?_⟩
  rw [toInt_small _ (by dsimp only; omega)]
  dsimp only
  omega

/-- The logarithm of an entry below plus infinity is below plus infinity. -/
theorem lg_lt (q : EReal) (h : q < ⊤) : Cert.KernelIdeal.Gen.lg q ≠ ⊤ := by
  obtain ⟨r, hr⟩ : ∃ r : ℝ, Ideal.ofBits .f32 0x0DA24260#32 = (r : EReal) := ⟨_, by
    simp only [Ideal.ofBits, Ideal.ieee]; simp; rfl⟩
  unfold Cert.KernelIdeal.Gen.lg
  rw [hr]
  induction q using EReal.rec with
  | bot => rw [EReal.bot_add]; exact bot_ne_top
  | top => exact absurd h (lt_irrefl _)
  | coe s =>
    rw [← EReal.coe_add]
    show (if s + r ≤ 0 then ⊥ else ((Real.log (s + r) : ℝ) : EReal)) ≠ ⊤
    split
    · exact bot_ne_top
    · exact EReal.coe_ne_top _

/-- Under the precondition the kernel and the reference both run, and end with the same samples and their arguments
    unchanged. -/
theorem algebraic [hP : Cert.Pre_tokens_in_range.Facts] :
    algebraic_KernelIdeal_ReferenceIdeal_pre_tokens_in_range (hKernelIdeal := Cert.KernelIdeal.Gen.facts)
      (hReferenceIdeal := Cert.ReferenceIdeal.Gen.facts) (hPre_tokens_in_range := hP) := by
  intro m g m' g' hpre harg
  refine ⟨fun c => fun i => Cert.KernelIdeal.Gen.colOut m c (ix2 (i 1) 0),
    θ_run_mono (Cert.KernelIdeal.Gen.run_out m g) fun r hr c => hr.1 c,
    θ_run_mono (Cert.ReferenceIdeal.Ops.run_main m' g') fun r hr c => ?_⟩
  obtain ⟨W, hS, hW, h0, h1, h2⟩ := hr.1 c
  refine ⟨?_, (hW _).trans h0, (hW _).trans h1, (hW _).trans h2⟩
  obtain ⟨hx, hq⟩ := pre_read (hpre c)
  obtain ⟨a0, a1, a2⟩ := harg c
  rw [hW]
  funext i
  have hi : i = ix2 (0 : Fin 1) (i 1) := by
    funext k
    match k with
    | 0 => exact Subsingleton.elim (α := Fin 1) (i 0) 0
    | 1 => rfl
  rw [hi]
  obtain ⟨n, hn⟩ : ∃ n : Fin 8192, n = i 1 := ⟨_, rfl⟩
  rw [← hn]
  show (W (Proc.devRef .tc Cert.ReferenceIdeal.main_v27) (ix2 0 n) : BitVec 32) = Cert.KernelIdeal.Gen.colOut m c (ix2 n 0)
  obtain ⟨a, ha⟩ := token_col _ (hx (ix2 0 n)).1 (hx (ix2 0 n)).2
  have hK := Cert.KernelIdeal.Gen.col_pick m c n a ha fun k => lg_lt _ (hq _)
  have hR := Cert.ReferenceIdeal.Ops.ref_pick hS n a (by rw [h0, a0]; exact ha)
  rw [h1, h2, a1, a2] at hR
  exact hR.unique hK

end Cert.Proof
-- ==== Proof.lean ====
/- The certificate's claim, put together. -/
module

public import proofs.«01_k».proof.Proof.Frames
public import proofs.«01_k».proof.Proof.Value
public import proofs.«01_k».proof.Proof.Gen.Pre_tokens_in_range

@[expose] public section

noncomputable section

namespace Cert.Proof

open Idealize.ShloMosaic Idealize.SL.Sem

/-- Everything the certificate claims: the three programs run, keep their arguments and leave every counter zero, with or
    without the precondition; the named constant is minus infinity; and under the precondition the kernel's samples are
    the reference's. -/
theorem claim : Cert.Claim :=
  ⟨Cert.Kernel.Gen.facts, Cert.KernelIdeal.Gen.facts, Cert.ReferenceIdeal.Gen.facts, Cert.Pre_tokens_in_range.Gen.facts,
    kernel_quiescent, kernelIdeal_quiescent, fun m g _ => kernelIdeal_quiescent m g trivial, reference_quiescent,
    fun m g _ => reference_quiescent m g trivial, mask_named, algebraic⟩

end Cert.Proof

end
